-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S256x4096 : Shape := ⟨2, ![256, 4096]⟩
abbrev S2x4096x1024 : Shape := ⟨3, ![2, 4096, 1024]⟩
abbrev S16 : Shape := ⟨1, ![16]⟩
abbrev S2x4 : Shape := ⟨2, ![2, 4]⟩
abbrev S1x1 : Shape := ⟨2, ![1, 1]⟩
abbrev S_ : Shape := ⟨0, ![]⟩
abbrev S1x1024x1024 : Shape := ⟨3, ![1, 1024, 1024]⟩
abbrev S1024x1024 : Shape := ⟨2, ![1024, 1024]⟩
abbrev S256x256 : Shape := ⟨2, ![256, 256]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .fp8e4m3⟩
  | .local _ .vmem, ⟨3, _⟩ => ⟨S256x4096, .fp8e4m3⟩
  | .local _ .vmem, ⟨4, _⟩ => ⟨S2x4096x1024, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_53 : BitVec 32 := 1#32
  let v50 : BitVec 32 := Scalar.addi v2 c1_i32_53
  let c16_i32_54 : BitVec 32 := 16#32
  let v51 : BitVec 32 := Scalar.remsi v50 c16_i32_54
  let c1_i32_56 : BitVec 32 := 1#32
  let v52 : BitVec 32 := Scalar.muli v51 c1_i32_56
  let v53 : BitVec 32 := Scalar.addi c0_i32_57 v52
  v53.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_58 : BitVec 32 := 2#32
  let v54 : BitVec 32 := Scalar.addi v2 c2_i32_58
  let c16_i32_59 : BitVec 32 := 16#32
  let v55 : BitVec 32 := Scalar.remsi v54 c16_i32_59
  let c1_i32_61 : BitVec 32 := 1#32
  let v56 : BitVec 32 := Scalar.muli v55 c1_i32_61
  let v57 : BitVec 32 := Scalar.addi c0_i32_62 v56
  v57.toNat
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_63 : BitVec 32 := 3#32
  let v58 : BitVec 32 := Scalar.addi v2 c3_i32_63
  let c16_i32_64 : BitVec 32 := 16#32
  let v59 : BitVec 32 := Scalar.remsi v58 c16_i32_64
  let c1_i32_66 : BitVec 32 := 1#32
  let v60 : BitVec 32 := Scalar.muli v59 c1_i32_66
  let v61 : BitVec 32 := Scalar.addi c0_i32_67 v60
  v61.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v62 : BitVec 32 := Scalar.addi v2 c4_i32
  let c16_i32_68 : BitVec 32 := 16#32
  let v63 : BitVec 32 := Scalar.remsi v62 c16_i32_68
  let c1_i32_70 : BitVec 32 := 1#32
  let v64 : BitVec 32 := Scalar.muli v63 c1_i32_70
  let v65 : BitVec 32 := Scalar.addi c0_i32_71 v64
  v65.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v66 : BitVec 32 := Scalar.addi v2 c5_i32
  let c16_i32_72 : BitVec 32 := 16#32
  let v67 : BitVec 32 := Scalar.remsi v66 c16_i32_72
  let c1_i32_74 : BitVec 32 := 1#32
  let v68 : BitVec 32 := Scalar.muli v67 c1_i32_74
  let v69 : BitVec 32 := Scalar.addi c0_i32_75 v68
  v69.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v70 : BitVec 32 := Scalar.addi v2 c6_i32
  let c16_i32_76 : BitVec 32 := 16#32
  let v71 : BitVec 32 := Scalar.remsi v70 c16_i32_76
  let c1_i32_78 : BitVec 32 := 1#32
  let v72 : BitVec 32 := Scalar.muli v71 c1_i32_78
  let v73 : BitVec 32 := Scalar.addi c0_i32_79 v72
  v73.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v74 : BitVec 32 := Scalar.addi v2 c7_i32
  let c16_i32_80 : BitVec 32 := 16#32
  let v75 : BitVec 32 := Scalar.remsi v74 c16_i32_80
  let c1_i32_82 : BitVec 32 := 1#32
  let v76 : BitVec 32 := Scalar.muli v75 c1_i32_82
  let v77 : BitVec 32 := Scalar.addi c0_i32_83 v76
  v77.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v78 : BitVec 32 := Scalar.addi v2 c8_i32
  let c16_i32_84 : BitVec 32 := 16#32
  let v79 : BitVec 32 := Scalar.remsi v78 c16_i32_84
  let c1_i32_86 : BitVec 32 := 1#32
  let v80 : BitVec 32 := Scalar.muli v79 c1_i32_86
  let v81 : BitVec 32 := Scalar.addi c0_i32_87 v80
  v81.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v82 : BitVec 32 := Scalar.addi v2 c9_i32
  let c16_i32_88 : BitVec 32 := 16#32
  let v83 : BitVec 32 := Scalar.remsi v82 c16_i32_88
  let c1_i32_90 : BitVec 32 := 1#32
  let v84 : BitVec 32 := Scalar.muli v83 c1_i32_90
  let v85 : BitVec 32 := Scalar.addi c0_i32_91 v84
  v85.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v86 : BitVec 32 := Scalar.addi v2 c10_i32
  let c16_i32_92 : BitVec 32 := 16#32
  let v87 : BitVec 32 := Scalar.remsi v86 c16_i32_92
  let c1_i32_94 : BitVec 32 := 1#32
  let v88 : BitVec 32 := Scalar.muli v87 c1_i32_94
  let v89 : BitVec 32 := Scalar.addi c0_i32_95 v88
  v89.toNat
def k0_dev11 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v90 : BitVec 32 := Scalar.addi v2 c11_i32
  let c16_i32_96 : BitVec 32 := 16#32
  let v91 : BitVec 32 := Scalar.remsi v90 c16_i32_96
  let c1_i32_98 : BitVec 32 := 1#32
  let v92 : BitVec 32 := Scalar.muli v91 c1_i32_98
  let v93 : BitVec 32 := Scalar.addi c0_i32_99 v92
  v93.toNat
def k0_dev12 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v94 : BitVec 32 := Scalar.addi v2 c12_i32
  let c16_i32_100 : BitVec 32 := 16#32
  let v95 : BitVec 32 := Scalar.remsi v94 c16_i32_100
  let c1_i32_102 : BitVec 32 := 1#32
  let v96 : BitVec 32 := Scalar.muli v95 c1_i32_102
  let v97 : BitVec 32 := Scalar.addi c0_i32_103 v96
  v97.toNat
def k0_dev13 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v98 : BitVec 32 := Scalar.addi v2 c13_i32
  let c16_i32_104 : BitVec 32 := 16#32
  let v99 : BitVec 32 := Scalar.remsi v98 c16_i32_104
  let c1_i32_106 : BitVec 32 := 1#32
  let v100 : BitVec 32 := Scalar.muli v99 c1_i32_106
  let v101 : BitVec 32 := Scalar.addi c0_i32_107 v100
  v101.toNat
def k0_dev14 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v102 : BitVec 32 := Scalar.addi v2 c14_i32
  let c16_i32_108 : BitVec 32 := 16#32
  let v103 : BitVec 32 := Scalar.remsi v102 c16_i32_108
  let c1_i32_110 : BitVec 32 := 1#32
  let v104 : BitVec 32 := Scalar.muli v103 c1_i32_110
  let v105 : BitVec 32 := Scalar.addi c0_i32_111 v104
  v105.toNat
def k0_dev15 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v106 : BitVec 32 := Scalar.addi v2 c15_i32
  let c16_i32_112 : BitVec 32 := 16#32
  let v107 : BitVec 32 := Scalar.remsi v106 c16_i32_112
  let c1_i32_114 : BitVec 32 := 1#32
  let v108 : BitVec 32 := Scalar.muli v107 c1_i32_114
  let v109 : BitVec 32 := Scalar.addi c0_i32_115 v108
  v109.toNat
def k0_off1 (d0 : Dev nD) : Fin 2 → Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_119 : BitVec 32 := 256#32
  let v113 : BitVec 32 := Scalar.muli v2 c256_i32_119
  ![0, v113.toNat]
def k0_off2 (d0 : Dev nD) (c1_i32_117 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v110 : BitVec 32 := Scalar.addi v2 c1_i32_117
  let c16_i32_118 : BitVec 32 := 16#32
  let v111 : BitVec 32 := Scalar.remsi v110 c16_i32_118
  let c256_i32 : BitVec 32 := 256#32
  let v112 : BitVec 32 := Scalar.muli v111 c256_i32
  let c0_i32_125 : BitVec 32 := 0#32
  ![v112.toNat, 0]
def k0_dev16 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_117 : BitVec 32 := 1#32
  let v110 : BitVec 32 := Scalar.addi v2 c1_i32_117
  let c16_i32_118 : BitVec 32 := 16#32
  let v111 : BitVec 32 := Scalar.remsi v110 c16_i32_118
  let c1_i32_122 : BitVec 32 := 1#32
  let v114 : BitVec 32 := Scalar.muli v111 c1_i32_122
  let v115 : BitVec 32 := Scalar.addi c0_i32_123 v114
  v115.toNat
def k0_dev17 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_126 : BitVec 32 := 2#32
  let v122 : BitVec 32 := Scalar.addi v2 c2_i32_126
  let c16_i32_127 : BitVec 32 := 16#32
  let v123 : BitVec 32 := Scalar.remsi v122 c16_i32_127
  let c1_i32_132 : BitVec 32 := 1#32
  let v126 : BitVec 32 := Scalar.muli v123 c1_i32_132
  let v127 : BitVec 32 := Scalar.addi c0_i32_133 v126
  v127.toNat
def k0_dev18 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_136 : BitVec 32 := 3#32
  let v134 : BitVec 32 := Scalar.addi v2 c3_i32_136
  let c16_i32_137 : BitVec 32 := 16#32
  let v135 : BitVec 32 := Scalar.remsi v134 c16_i32_137
  let c1_i32_142 : BitVec 32 := 1#32
  let v138 : BitVec 32 := Scalar.muli v135 c1_i32_142
  let v139 : BitVec 32 := Scalar.addi c0_i32_143 v138
  v139.toNat
def k0_dev19 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_146 : BitVec 32 := 4#32
  let v146 : BitVec 32 := Scalar.addi v2 c4_i32_146
  let c16_i32_147 : BitVec 32 := 16#32
  let v147 : BitVec 32 := Scalar.remsi v146 c16_i32_147
  let c1_i32_152 : BitVec 32 := 1#32
  let v150 : BitVec 32 := Scalar.muli v147 c1_i32_152
  let v151 : BitVec 32 := Scalar.addi c0_i32_153 v150
  v151.toNat
def k0_dev20 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_156 : BitVec 32 := 5#32
  let v158 : BitVec 32 := Scalar.addi v2 c5_i32_156
  let c16_i32_157 : BitVec 32 := 16#32
  let v159 : BitVec 32 := Scalar.remsi v158 c16_i32_157
  let c1_i32_162 : BitVec 32 := 1#32
  let v162 : BitVec 32 := Scalar.muli v159 c1_i32_162
  let v163 : BitVec 32 := Scalar.addi c0_i32_163 v162
  v163.toNat
def k0_dev21 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_166 : BitVec 32 := 6#32
  let v170 : BitVec 32 := Scalar.addi v2 c6_i32_166
  let c16_i32_167 : BitVec 32 := 16#32
  let v171 : BitVec 32 := Scalar.remsi v170 c16_i32_167
  let c1_i32_172 : BitVec 32 := 1#32
  let v174 : BitVec 32 := Scalar.muli v171 c1_i32_172
  let v175 : BitVec 32 := Scalar.addi c0_i32_173 v174
  v175.toNat
def k0_dev22 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_176 : BitVec 32 := 7#32
  let v182 : BitVec 32 := Scalar.addi v2 c7_i32_176
  let c16_i32_177 : BitVec 32 := 16#32
  let v183 : BitVec 32 := Scalar.remsi v182 c16_i32_177
  let c1_i32_182 : BitVec 32 := 1#32
  let v186 : BitVec 32 := Scalar.muli v183 c1_i32_182
  let v187 : BitVec 32 := Scalar.addi c0_i32_183 v186
  v187.toNat
def k0_dev23 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v194 : BitVec 32 := Scalar.addi v2 c8_i32_186
  let c16_i32_187 : BitVec 32 := 16#32
  let v195 : BitVec 32 := Scalar.remsi v194 c16_i32_187
  let c1_i32_192 : BitVec 32 := 1#32
  let v198 : BitVec 32 := Scalar.muli v195 c1_i32_192
  let v199 : BitVec 32 := Scalar.addi c0_i32_193 v198
  v199.toNat
def k0_dev24 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_196 : BitVec 32 := 9#32
  let v206 : BitVec 32 := Scalar.addi v2 c9_i32_196
  let c16_i32_197 : BitVec 32 := 16#32
  let v207 : BitVec 32 := Scalar.remsi v206 c16_i32_197
  let c1_i32_202 : BitVec 32 := 1#32
  let v210 : BitVec 32 := Scalar.muli v207 c1_i32_202
  let v211 : BitVec 32 := Scalar.addi c0_i32_203 v210
  v211.toNat
def k0_dev25 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_206 : BitVec 32 := 10#32
  let v218 : BitVec 32 := Scalar.addi v2 c10_i32_206
  let c16_i32_207 : BitVec 32 := 16#32
  let v219 : BitVec 32 := Scalar.remsi v218 c16_i32_207
  let c1_i32_212 : BitVec 32 := 1#32
  let v222 : BitVec 32 := Scalar.muli v219 c1_i32_212
  let v223 : BitVec 32 := Scalar.addi c0_i32_213 v222
  v223.toNat
def k0_dev26 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_216 : BitVec 32 := 11#32
  let v230 : BitVec 32 := Scalar.addi v2 c11_i32_216
  let c16_i32_217 : BitVec 32 := 16#32
  let v231 : BitVec 32 := Scalar.remsi v230 c16_i32_217
  let c1_i32_222 : BitVec 32 := 1#32
  let v234 : BitVec 32 := Scalar.muli v231 c1_i32_222
  let v235 : BitVec 32 := Scalar.addi c0_i32_223 v234
  v235.toNat
def k0_dev27 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_226 : BitVec 32 := 12#32
  let v242 : BitVec 32 := Scalar.addi v2 c12_i32_226
  let c16_i32_227 : BitVec 32 := 16#32
  let v243 : BitVec 32 := Scalar.remsi v242 c16_i32_227
  let c1_i32_232 : BitVec 32 := 1#32
  let v246 : BitVec 32 := Scalar.muli v243 c1_i32_232
  let v247 : BitVec 32 := Scalar.addi c0_i32_233 v246
  v247.toNat
def k0_dev28 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_236 : BitVec 32 := 13#32
  let v254 : BitVec 32 := Scalar.addi v2 c13_i32_236
  let c16_i32_237 : BitVec 32 := 16#32
  let v255 : BitVec 32 := Scalar.remsi v254 c16_i32_237
  let c1_i32_242 : BitVec 32 := 1#32
  let v258 : BitVec 32 := Scalar.muli v255 c1_i32_242
  let v259 : BitVec 32 := Scalar.addi c0_i32_243 v258
  v259.toNat
def k0_dev29 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_246 : BitVec 32 := 14#32
  let v266 : BitVec 32 := Scalar.addi v2 c14_i32_246
  let c16_i32_247 : BitVec 32 := 16#32
  let v267 : BitVec 32 := Scalar.remsi v266 c16_i32_247
  let c1_i32_252 : BitVec 32 := 1#32
  let v270 : BitVec 32 := Scalar.muli v267 c1_i32_252
  let v271 : BitVec 32 := Scalar.addi c0_i32_253 v270
  v271.toNat
def k0_dev30 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_256 : BitVec 32 := 15#32
  let v278 : BitVec 32 := Scalar.addi v2 c15_i32_256
  let c16_i32_257 : BitVec 32 := 16#32
  let v279 : BitVec 32 := Scalar.remsi v278 c16_i32_257
  let c1_i32_262 : BitVec 32 := 1#32
  let v282 : BitVec 32 := Scalar.muli v279 c1_i32_262
  let v283 : BitVec 32 := Scalar.addi c0_i32_263 v282
  v283.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_266 : BitVec 32 := 256#32
  let v290 : BitVec 32 := Scalar.muli v2 c256_i32_266
  let v291 : Index := Scalar.indexCast v290
  let c0_267 : Index := 0#32
  ![v291.toNat, 0]
def k0_off4 (d0 : Dev nD) : Fin 2 → Nat :=
  let c0_269 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_268 : BitVec 32 := 256#32
  let v293 : BitVec 32 := Scalar.muli v2 c256_i32_268
  let v294 : Index := Scalar.indexCast v293
  ![0, v294.toNat]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Shape.lean ====
/-
# 01_k — the kernel's body as loops

The body of the kernel is one straight line of operations: the handshake's fifteen signals, the fifteen copies, the
fifteen waits, eight tiles. This module names its buffers and semaphores, indexes them by the offset between two
devices, and states the straight line as a program of loops over those indices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## The ring of sixteen devices -/

/-- The device `d + 1` places after `c`. -/
def fwd (c : Dev nD) (d : Fin 15) : Dev nD := ⟨(c.val + d.val + 1) % 16, Nat.mod_lt _ (by decide)⟩
/-- The device `d + 1` places before `c`. -/
def bwd (c : Dev nD) (d : Fin 15) : Dev nD := ⟨(c.val + 15 - d.val) % 16, Nat.mod_lt _ (by decide)⟩

theorem bwd_fwd (c : Dev nD) (d : Fin 15) : bwd (fwd c d) d = c := by revert c d; decide
theorem fwd_bwd (c : Dev nD) (d : Fin 15) : fwd (bwd c d) d = c := by revert c d; decide
theorem bwd_eq (c : Dev nD) (d : Fin 15) : bwd c d = fwd c d.rev := by revert c d; decide
theorem fwd_ne (c : Dev nD) (d : Fin 15) : fwd c d ≠ c := by revert c d; decide
theorem bwd_ne (c : Dev nD) (d : Fin 15) : bwd c d ≠ c := by revert c d; decide

/-! ## The buffers -/

abbrev xM : Memref sig .tc .vmem S4096x256 .f32 := Memref.whole cc0_stg0_0
abbrev wM : Memref sig .tc .hbm S4096x8192 .f32 := Memref.whole main_arg1
abbrev sxM : Memref sig .tc .smem S1 .f32 := Memref.whole cc0_stg1_0
abbrev swM : Memref sig .tc .smem S1 .f32 := Memref.whole cc0_stg2_0
abbrev oM : Memref sig .tc .vmem S256x8192 .f32 := Memref.whole cc0_stg3_0
abbrev x8M : Memref sig .tc .vmem S4096x256 .fp8e4m3 := Memref.whole cc0_scratch0
abbrev xfM : Memref sig .tc .vmem S256x4096 .fp8e4m3 := Memref.whole cc0_scratch1
abbrev wtM : Memref sig .tc .vmem S2x4096x1024 .f32 := Memref.whole cc0_scratch2

theorem hx8 : x8M.IsWhole := Memref.isWhole_whole _
theorem hxf : xfM.IsWhole := Memref.isWhole_whole _

/-- Device `c`'s own 256 columns of the gathered buffer: where its rows go on every device. -/
abbrev colM (c : Dev nD) : Memref sig .tc .vmem S256x256 .fp8e4m3 :=
  xfM.slice (Rect.unit (s := S256x4096) (k0_off1 c) S256x256.size (k0_off1_inb c)) (fun _ => rfl)
/-- The 256 rows of device `c`'s block that its `d`-th copy sends: those of device `fwd c d`. -/
abbrev rowM (c : Dev nD) (d : Fin 15) : Memref sig .tc .vmem S256x256 .fp8e4m3 :=
  x8M.slice (Rect.unit (s := S4096x256) (k0_off2 c (BitVec.ofNat 32 (1 + d.val))) S256x256.size (k0_off2_inb c d)) (fun _ => rfl)

theorem inb_sem (d : Fin 15) : ∀ a, (![d.val + 1] : Fin 1 → Nat) a + S1.size a ≤ S16.size a := by revert d; decide
theorem inb_wsem (s : Fin 2) (r : Fin 4) : ∀ a, (![s.val, r.val] : Fin 2 → Nat) a + S1x1.size a ≤ S2x4.size a := by revert s r; decide
theorem inb_wchunk (s : Fin 2) (r : Fin 4) : ∀ a, (![s.val, r.val * 1024, 0] : Fin 3 → Nat) a + S1x1024x1024.size a ≤ S2x4096x1024.size a := by revert s r; decide
theorem inb_wsrc (t : Fin 8) (r : Fin 4) : ∀ a, (![r.val * 1024, t.val * 1024] : Fin 2 → Nat) a + S1024x1024.size a ≤ S4096x8192.size a := by revert t r; decide
theorem inb_wtile (s : Fin 2) : ∀ a, (![s.val, 0, 0] : Fin 3 → Nat) a + S1x4096x1024.size a ≤ S2x4096x1024.size a := by revert s; decide
theorem inb_otile (t : Fin 8) : ∀ a, (![0, t.val * 1024] : Fin 2 → Nat) a + S256x1024.size a ≤ S256x8192.size a := by revert t; decide

/-- The semaphore of the `d`-th copy's departure, -/
abbrev sendS (d : Fin 15) : DmaSem sig := ((cc0_scratch3.slice (Rect.unit (s := S16) ![d.val + 1] S1.size (inb_sem d))).squeeze S_ squeezes_S1_S_).sem
/-- and of its arrival. -/
abbrev recvS (d : Fin 15) : DmaSem sig := ((cc0_scratch4.slice (Rect.unit (s := S16) ![d.val + 1] S1.size (inb_sem d))).squeeze S_ squeezes_S1_S_).sem
/-- The semaphore of chunk `r` of slot `s` of the weight tiles. -/
abbrev wS (s : Fin 2) (r : Fin 4) : DmaSem sig := ((cc0_scratch5.slice (Rect.unit (s := S2x4) ![s.val, r.val] S1x1.size (inb_wsem s r))).squeeze S_ squeezes_S1x1_S_).sem
/-- The semaphore of the handshake. -/
abbrev barS : Sem sig := (SemArray.scalar (sig.barrier 0 rfl) : Sems sig S_).sem

/-- Chunk `r` of slot `s` of the weight tiles, -/
abbrev chunkM (s : Fin 2) (r : Fin 4) : Memref sig .tc .vmem S1024x1024 .f32 :=
  (wtM.slice (Rect.unit (s := S2x4096x1024) ![s.val, r.val * 1024, 0] S1x1024x1024.size (inb_wchunk s r)) (fun _ => rfl)).squeeze S1024x1024 squeezes_S1x1024x1024_S1024x1024
/-- and the rows of tile `t` of the weights it is filled with. -/
abbrev wsrcM (t : Fin 8) (r : Fin 4) : Memref sig .tc .hbm S1024x1024 .f32 :=
  wM.slice (Rect.unit (s := S4096x8192) ![r.val * 1024, t.val * 1024] S1024x1024.size (inb_wsrc t r)) (fun _ => rfl)

/-- The slot of tile `t`. -/
abbrev slot (t : Fin 8) : Fin 2 := ⟨t.val % 2, Nat.mod_lt _ (by decide)⟩

abbrev xR : Rect S4096x256 := Rect.unit (s := S4096x256) ![0, 0] S4096x256.size inb_S4096x256_S4096x256_0_0
abbrev xfR : Rect S256x4096 := Rect.unit (s := S256x4096) ![0, 0] S256x4096.size inb_S256x4096_S256x4096_0_0
abbrev ownRowR (c : Dev nD) : Rect S4096x256 := Rect.unit (s := S4096x256) (k0_off3 c) S256x256.size (k0_off3_inb c)
abbrev ownColR (c : Dev nD) : Rect S256x4096 := Rect.unit (s := S256x4096) (k0_off4 c) S256x256.size (k0_off4_inb c)
abbrev sR : Rect S1 := Rect.unit (s := S1) ![0] S1.size inb_S1_S1_0
abbrev tileR (s : Fin 2) : Rect S2x4096x1024 := Rect.unit (s := S2x4096x1024) ![s.val, 0, 0] S1x4096x1024.size (inb_wtile s)
abbrev outR (t : Fin 8) : Rect S256x8192 := Rect.unit (s := S256x8192) ![0, t.val * 1024] S256x1024.size (inb_otile t)

/-- A tile of the result from the scale, the gathered rows and the tile of the weights. -/
def tileVal (s : F .f32) (xf : Vec F S256x4096 .fp8e4m3) (w : Vec F S1x4096x1024 .f32) : FVec F S256x1024 .f32 := k0_pay6 s xf w

/-! ## The loops -/

abbrev P (F : FTy → Type) [FloatOps F] := Prog (TpuEff nD τ sig (Elt F) Λ₀ .tc) PUnit

/-- The signal to the `d`-th device on. -/
def sigOp (c : Dev nD) (d : Fin 15) (k : P F) : P F := Prog.op (.semSignal (fwd c d, .tc) barS (1#32 : BitVec 32).toInt) fun _ => k
/-- The wait for the fifteen signals. -/
def barOp (k : P F) : P F := Prog.op (.semWait barS (15#32 : BitVec 32).toInt) fun _ => k
/-- The `d`-th copy. -/
def sendOp (c : Dev nD) (d : Fin 15) (k : P F) : P F :=
  Prog.op (.enqueueDma (rowM c d) (.remote (Dev.tc (fwd c d)) (colM c) (.dma (sendS d))) (.dma (recvS d))
    (hx8.wordExact_slice rfl _ (k0_off2_wordsfp8e4m3 c d)) (hxf.wordExact_slice rfl _ (k0_off1_wordsfp8e4m3 c)) ⟨⟨rfl, Or.inl rfl⟩, trivial⟩) fun _ => k
/-- The wait for the `d`-th arrival, -/
def recvOp (c : Dev nD) (d : Fin 15) (k : P F) : P F :=
  Prog.op (.waitDma2 (recvS d) (rowM c d) (colM c) (hx8.wordExact_slice rfl _ (k0_off2_wordsfp8e4m3 c d)) (hxf.wordExact_slice rfl _ (k0_off1_wordsfp8e4m3 c))) fun _ => k
/-- and for the `d`-th departure. -/
def goneOp (c : Dev nD) (d : Fin 15) (k : P F) : P F :=
  Prog.op (.waitDma2 (sendS d) (colM c) (rowM c d) (hxf.wordExact_slice rfl _ (k0_off1_wordsfp8e4m3 c)) (hx8.wordExact_slice rfl _ (k0_off2_wordsfp8e4m3 c d))) fun _ => k
/-- Chunk `r` of tile `t`'s load begun, -/
def wstartOp (t : Fin 8) (r : Fin 4) (k : P F) : P F :=
  Prog.op (.enqueueDma (wsrcM t r) (.here (chunkM (slot t) r)) (.dma (wS (slot t) r)) (View.wordExact_bits rfl) ((View.wordExact_bits rfl).reshape _ _) ⟨Or.inl rfl, trivial⟩) fun _ => k
/-- and waited for. -/
def wwaitOp (t : Fin 8) (r : Fin 4) (k : P F) : P F :=
  Prog.op (.waitDma2 (wS (slot t) r) (wsrcM t r) (chunkM (slot t) r) (View.wordExact_bits rfl) ((View.wordExact_bits rfl).reshape _ _)) fun _ => k

/-- All fifteen offsets, in the order the body takes them, -/
def offs : List (Fin 15) := [0, 1, 2, 3, 4, 5, 6, 7, 8, 9, 10, 11, 12, 13, 14]
/-- the four chunks, -/
def chunks : List (Fin 4) := [0, 1, 2, 3]
/-- and the eight tiles. -/
def tiles : List (Fin 8) := [0, 1, 2, 3, 4, 5, 6, 7]

def wstart (t : Fin 8) (k : P F) : P F := chunks.foldr (wstartOp t) k
def wwait (t : Fin 8) (k : P F) : P F := chunks.foldr (wwaitOp t) k

/-- The next tile but one begun, if there is one. -/
def wnext (t : Fin 8) (k : P F) : P F := if h : t.val + 2 < 8 then wstart ⟨t.val + 2, h⟩ k else k

/-- One tile: its load waited for, the product and its epilogue stored, the next tile but one begun. -/
def tileOp (s : F .f32) (t : Fin 8) (k : P F) : P F :=
  wwait t <|
  Prog.op (.load xfM xfR.toLoadRect (View.loadsAt_vmem h_S256x4096)) fun xf =>
  Prog.op (.load wtM (tileR (slot t)).toLoadRect (View.loadsAt_vmem h_S1x4096x1024)) fun w =>
  Prog.op (.load oM (outR t).toLoadRect (View.loadsAt_vmem h_S256x1024)) fun _ =>
  Prog.op (.store oM (outR t) (tileVal s xf w) Finset.univ (View.stores_vmem_bits_univ h_S256x1024 rfl) (.inl rfl)) fun _ =>
  wnext t k

/-- The whole body, on device `c`. -/
def body (c : Dev nD) : P F :=
  Prog.op (.load xM xR.toLoadRect (View.loadsAt_vmem h_S4096x256)) fun x =>
  Prog.op (.load x8M xR.toLoadRect (View.loadsAt_vmem h_S4096x256)) fun _ =>
  Prog.op (.store x8M xR (k0_pay1 x) Finset.univ (View.stores_vmem h_S4096x256 (hx8.storeExact_slice rfl _ packedfp8e4m3_S4096x256_S4096x256_0_0) (fun _ => rfl)) (.inl rfl)) fun _ =>
  wstart 0 <| wstart 1 <|
  offs.foldr (sigOp c) <| barOp <| offs.foldr (sendOp c) <|
  Prog.op (.load x8M (ownRowR c).toLoadRect (View.loadsAt_vmem h_S256x256)) fun v =>
  Prog.op (.load xfM (ownColR c).toLoadRect (View.loadsAt_vmem h_S256x256)) fun _ =>
  Prog.op (.store xfM (ownColR c) (k0_pay2 v) Finset.univ (View.stores_vmem h_S256x256 (hxf.storeExact_slice rfl _ (k0_off4_packedfp8e4m3 c)) (fun _ => rfl)) (.inl rfl)) fun _ =>
  offs.foldr (recvOp c) <|
  Prog.op (.load sxM sR.toLoadRect (View.loadsAt_rect (View.loads_smem_one rfl numel1_S1))) fun a =>
  Prog.op (.load swM sR.toLoadRect (View.loadsAt_rect (View.loads_smem_one rfl numel1_S1))) fun b =>
  tiles.foldr (tileOp (k0_pay3 (a (Shape.Idx.first (numel1_S1.symm ▸ Nat.one_pos))) (b (Shape.Idx.first (numel1_S1.symm ▸ Nat.one_pos))))) <|
  offs.foldr (goneOp c) <| Prog.ret ⟨⟩

end Cert.KProof

end
-- ==== Proof.Protocol.lean ====
/-
# 01_k — the protocol between the devices

Each device has one barrier cell, fifteen departure cells and fifteen arrival cells. Its barrier cell's round is paid in
fifteen units, one by each other device, and each brings the slab of that device's gathered buffer the waiting device is
to write; a departure cell's round brings the sent rows back, an arrival cell's the slab of the waiting device's own
buffer holding what was sent. This module names the contents, states the schedule, and gives what each device owes.
-/
module

public import proofs.«01_k».proof.Proof.Shape
public import Idealize.ShloMosaic.Lib.ValueLayout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's rounds, the protocol's, the local transfers' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's share of the algebra: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The cells -/

/-- A device's cells: its barrier's, its departures', its arrivals'. -/
abbrev Kd : Type := Unit ⊕ (Fin 15 ⊕ Fin 15)

def csem : Kd → SemLoc sig
  | .inl _ => .reg barS
  | .inr (.inl d) => .dma (sendS d)
  | .inr (.inr d) => .dma (recvS d)

abbrev barCell (c : Dev nD) : GSem nD τ sig := ((c : Thread nD τ), .reg barS)
abbrev sendCell (c : Dev nD) (d : Fin 15) : GSem nD τ sig := ((c : Thread nD τ), .dma (sendS d))
abbrev recvCell (c : Dev nD) (d : Fin 15) : GSem nD τ sig := ((c : Thread nD τ), .dma (recvS d))
abbrev kcell (ck : Dev nD × Kd) : GSem nD τ sig := ((ck.1 : Thread nD τ), csem ck.2)

theorem csem_injective : Function.Injective csem := by
  have h : ∀ a b : Kd, csem a = csem b → a = b := by decide
  exact fun a b => h a b

/-- Which of a device's cells a semaphore is, if any. -/
def dec (sm : SemLoc sig) : Option Kd := Function.partialInv csem sm
theorem dec_csem (k : Kd) : dec (csem k) = some k := Function.partialInv_left csem_injective k
theorem dec_bar : dec (.reg barS) = some (.inl ()) := dec_csem (.inl ())
theorem dec_send (d : Fin 15) : dec (.dma (sendS d)) = some (.inr (.inl d)) := dec_csem (.inr (.inl d))
theorem dec_recv (d : Fin 15) : dec (.dma (recvS d)) = some (.inr (.inr d)) := dec_csem (.inr (.inr d))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one copy's landing credits. -/
abbrev N : ℕ := sig.dmaCredit .tc (Kind.tc.table .vmem) xfM.view.buf S256x256 .fp8e4m3
theorem N_pos : 0 < N := (colM 0).view.dmaCredit_pos (by decide)

/-! ## Contents -/

/-- Device `c`'s block of `x`, as the body finds it; -/
def xstg (c : Dev nD) : (cc0_stg0_0 : Ref sig .tc).ty.Contents (Elt F) :=
  (win0_0.blk (0 : Fin 1)).view.read (Elt F) ((s₀ m ρ).mem ((c : Thread nD τ).loc main_arg0))
/-- its cast; -/
def X8 (c : Dev nD) : (cc0_scratch0 : Ref sig .tc).ty.Contents (Elt F) := k0_pay1 (xstg m ρ c)

def xdev (i : S256x4096.Idx) : Dev nD := ⟨(i 1).val / 256, by have := (i 1).isLt; change (i 1).val < 4096 at this; change _ < 16; omega⟩
theorem xrow_lt (c : Dev nD) (i : S256x4096.Idx) : c.val * 256 + (i 0).val < 4096 := by
  have h0 := (i 0).isLt; have h1 := c.isLt; change (i 0).val < 256 at h0; change c.val < 16 at h1; omega
def xrow (c : Dev nD) (i : S256x4096.Idx) : S4096x256.Idx := ix2 ⟨c.val * 256 + (i 0).val, xrow_lt c i⟩ ⟨(i 1).val % 256, Nat.mod_lt _ (by decide)⟩
/-- the gathered buffer once full: at `(r, k)`, row `256 c + r` of the cast block of device `k / 256`, at `k % 256`; -/
def XF (c : Dev nD) : (cc0_scratch1 : Ref sig .tc).ty.Contents (Elt F) := fun i => X8 m ρ (xdev i) (xrow c i)

/-- the weights; -/
def Wt (c : Dev nD) : (main_arg1 : Ref sig .tc).ty.Contents (Elt F) := (s₀ m ρ).mem ((c : Thread nD τ).loc main_arg1)
theorem wix_lt (t : Fin 8) (i : S2x4096x1024.Idx) : t.val * 1024 + (i 2).val < 8192 := by
  have h0 := (i 2).isLt; have h1 := t.isLt; change (i 2).val < 1024 at h0; omega
def wix (t : Fin 8) (i : S2x4096x1024.Idx) : S4096x8192.Idx := ix2 (i 1 : Fin 4096) ⟨t.val * 1024 + (i 2).val, wix_lt t i⟩
/-- a slot once it holds tile `t` of them. -/
def WT (c : Dev nD) (t : Fin 8) : (cc0_scratch2 : Ref sig .tc).ty.Contents (Elt F) := fun i => Wt m ρ c (wix t i)

/-! ## Pieces of the buffers -/

/-- The part of an index set on which a function takes a value. -/
abbrev fib {I T : Type} [Fintype I] [DecidableEq T] (g : I → T) (j : T) : Finset I := Finset.univ.filter (fun i => g i = j)

/-- The slab of device `j`'s gathered buffer that device `c` writes, -/
def colPts (c j : Dev nD) (f : (cc0_scratch1 : Ref sig .tc).ty.Contents (Elt F)) : sProp 𝕄 :=
  ((j : Thread nD τ).loc cc0_scratch1) ↦[fib xdev c]{fullShare} f
def rdev (i : S4096x256.Idx) : Dev nD := ⟨(i 0).val / 256, by have := (i 0).isLt; change (i 0).val < 4096 at this; change _ < 16; omega⟩
/-- and the rows of device `c`'s cast block that go to device `j`. -/
def rowPts (c j : Dev nD) (f : (cc0_scratch0 : Ref sig .tc).ty.Contents (Elt F)) : sProp 𝕄 :=
  ((c : Thread nD τ).loc cc0_scratch0) ↦[fib rdev j]{fullShare} f

omit [FloatOps F] in
instance colPts_storable (c j : Dev nD) (f) : BI.Storable (upEmb : UEmb _ 𝕄) (colPts (F := F) c j f) := by unfold colPts; infer_instance
omit [FloatOps F] in
instance rowPts_storable (c j : Dev nD) (f) : BI.Storable (upEmb : UEmb _ 𝕄) (rowPts (F := F) c j f) := by unfold rowPts; infer_instance

/-! ## The schedule -/

/-- One round: the barrier's fifteen units, each with its sender's slab; a departure's one duty, returning the rows; an
    arrival's one duty, with the slab filled. -/
def Rd : Rounds.Schedule (GSem nD τ sig) (Fin 15) 𝕄 where
  duties g r := if r = 0 ∧ g.1.2 = .tc then (match dec g.2 with | some (.inl _) => Finset.univ | some (.inr _) => {0} | none => ∅) else ∅
  unitless _ := False
  amount g _ _ := match dec g.2 with | some (.inl _) => 1 | _ => N
  payload g _ d := match dec g.2 with
    | some (.inl _) => iprop(∃ f, colPts g.1.1 (bwd g.1.1 d) f)
    | some (.inr (.inl e)) => rowPts g.1.1 (fwd g.1.1 e) (X8 m ρ g.1.1)
    | some (.inr (.inr e)) => colPts (bwd g.1.1 e) g.1.1 (XF m ρ g.1.1)
    | none => iprop(emp)
  amount_pos g _ _ _ := by
    split
    · exact Nat.one_pos
    · exact N_pos

instance Rd_payload_storable (g : GSem nD τ sig) (r : ℕ) (d : Fin 15) : BI.Storable (upEmb : UEmb _ 𝕄) ((Rd (F := F) m ρ).payload g r d) := by
  dsimp only [Rd]
  split <;> infer_instance

section Tables
variable (c : Dev nD) (e : Fin 15)

theorem duties_bar : (Rd (F := F) m ρ).duties (barCell c) 0 = Finset.univ := by dsimp only [Rd]; rw [if_pos ⟨rfl, rfl⟩, dec_bar]
theorem duties_send : (Rd (F := F) m ρ).duties (sendCell c e) 0 = {0} := by dsimp only [Rd]; rw [if_pos ⟨rfl, rfl⟩, dec_send]
theorem duties_recv : (Rd (F := F) m ρ).duties (recvCell c e) 0 = {0} := by dsimp only [Rd]; rw [if_pos ⟨rfl, rfl⟩, dec_recv]
theorem duties_later (g : GSem nD τ sig) : ∀ r, 1 ≤ r → (Rd (F := F) m ρ).duties g r = ∅ :=
  fun r hr => by dsimp only [Rd]; rw [if_neg fun h => by omega]

theorem amount_bar (d : Fin 15) : (Rd (F := F) m ρ).amount (barCell c) 0 d = 1 := by dsimp only [Rd]; rw [dec_bar]
theorem amount_send (d : Fin 15) : (Rd (F := F) m ρ).amount (sendCell c e) 0 d = N := by dsimp only [Rd]; rw [dec_send]
theorem amount_recv (d : Fin 15) : (Rd (F := F) m ρ).amount (recvCell c e) 0 d = N := by dsimp only [Rd]; rw [dec_recv]

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c e) 0 = N := by
  unfold Schedule.expect Schedule.amountOf; rw [duties_send, Finset.sum_singleton, amount_send]
theorem expect_recv : (Rd (F := F) m ρ).expect (recvCell c e) 0 = N := by
  unfold Schedule.expect Schedule.amountOf; rw [duties_recv, Finset.sum_singleton, amount_recv]

theorem payload_bar (d : Fin 15) : (Rd (F := F) m ρ).payload (barCell c) 0 d = iprop(∃ f, colPts c (bwd c d) f) := by dsimp only [Rd]; rw [dec_bar]
theorem payload_send (d : Fin 15) : (Rd (F := F) m ρ).payload (sendCell c e) 0 d = rowPts c (fwd c e) (X8 m ρ c) := by dsimp only [Rd]; rw [dec_send]
theorem payload_recv (d : Fin 15) : (Rd (F := F) m ρ).payload (recvCell c e) 0 d = colPts (bwd c e) c (XF m ρ c) := by dsimp only [Rd]; rw [dec_recv]

theorem rest_bar : bigSep ((Rd (F := F) m ρ).duties (barCell c) 0 \ ∅) (fun d => (Rd (F := F) m ρ).payload (barCell c) 0 d)
    = bigSep Finset.univ fun d => iprop(∃ f, colPts c (bwd c d) f) := by
  rw [Finset.sdiff_empty, duties_bar]; exact bigSep_congr fun d _ => payload_bar m ρ c d
theorem rest_send : bigSep ((Rd (F := F) m ρ).duties (sendCell c e) 0 \ ∅) (fun d => (Rd (F := F) m ρ).payload (sendCell c e) 0 d) = rowPts c (fwd c e) (X8 m ρ c) := by
  rw [Finset.sdiff_empty, duties_send, bigSep_singleton, payload_send]
theorem rest_recv : bigSep ((Rd (F := F) m ρ).duties (recvCell c e) 0 \ ∅) (fun d => (Rd (F := F) m ρ).payload (recvCell c e) 0 d) = colPts (bwd c e) c (XF m ρ c) := by
  rw [Finset.sdiff_empty, duties_recv, bigSep_singleton, payload_recv]

end Tables

/-! ## What each device owes; the levels -/

/-- The credits of the copies still to be sent, -/
def owedRecv (c : Dev nD) (l : List (Fin 15)) : CellTallies nD τ sig Unit := l.foldr (fun d O => O + tallyAt (recvCell (fwd c d) d) () N) 0
/-- and with them the units still to be signalled. -/
def owedBar (c : Dev nD) (l : List (Fin 15)) : CellTallies nD τ sig Unit := l.foldr (fun d O => O + tallyAt (barCell (fwd c d)) () 1) (owedRecv c offs)
def O₀ (c : Dev nD) : CellTallies nD τ sig Unit := owedBar c offs

def L (g : GSem nD τ sig) : Finset Unit := if g.1.2 = .tc then {()} else ∅
/-- Barrier cells at 1, arrival cells at 2, everything else at 0. -/
def lv (g : GSem nD τ sig) (_ : Unit) : ℕ := match dec g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [dec_bar]
theorem lv_recv (c : Dev nD) (d : Fin 15) (u : Unit) : lv (recvCell c d) u = 2 := by dsimp only [lv]; rw [dec_recv]

theorem owedRecv_pos {c : Dev nD} {l : List (Fin 15)} {g : GSem nD τ sig} {u : Unit} (h : 0 < owedRecv c l g u) : ∃ d, g = recvCell (fwd c d) d := by
  induction l with
  | nil => exact absurd h (Nat.lt_irrefl 0)
  | cons d l ih =>
    change 0 < (owedRecv c l + tallyAt (recvCell (fwd c d) d) () N) g u at h
    rw [Pi.add_apply, Finsupp.add_apply, tallyAt_apply] at h
    by_cases hg : g = recvCell (fwd c d) d ∧ u = ()
    · exact ⟨d, hg.1⟩
    · rw [if_neg hg] at h; exact ih h

theorem owedBar_pos {c : Dev nD} {l : List (Fin 15)} {g : GSem nD τ sig} {u : Unit} (h : 0 < owedBar c l g u) :
    ∃ d, g = recvCell (fwd c d) d ∨ g = barCell (fwd c d) := by
  induction l with
  | nil => obtain ⟨d, hd⟩ := owedRecv_pos h; exact ⟨d, .inl hd⟩
  | cons d l ih =>
    change 0 < (owedBar c l + tallyAt (barCell (fwd c d)) () 1) g u at h
    rw [Pi.add_apply, Finsupp.add_apply, tallyAt_apply] at h
    by_cases hg : g = barCell (fwd c d) ∧ u = ()
    · exact ⟨d, .inr hg.1⟩
    · rw [if_neg hg] at h; exact ih h

omit [FloatOps F] in
/-- A staging semaphore, none of the cells, may be waited for owing everything or nothing. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · have hd : dec (.dma q) = none := dif_neg fun ⟨k, hk⟩ => hq k hk
    refine MayOwe.of_cut (L := L) (lev := lv) 0 (fun p hp => by rw [Finset.mem_singleton.mp hp, L_tc]; exact Finset.mem_singleton_self _)
      (fun g u hg => by obtain ⟨d, rfl | rfl⟩ := owedBar_pos hg <;> exact Finset.mem_singleton_self _)
      (fun p hp => by rw [Finset.mem_singleton.mp hp]; dsimp only [lv]; rw [hd])
      (fun g u hg => by
        obtain ⟨d, rfl | rfl⟩ := owedBar_pos hg
        · rw [lv_recv]; decide
        · rw [lv_bar]; decide)
  · rw [MayWait_zero]; iintro -; iempintro

omit [FloatOps F] in
/-- At its barrier wait a device owes arrival credits only. -/
theorem mayWait_bar (c : Dev nD) : (levAts L lv : sProp 𝕄) ⊢ MayWait (c : Thread nD τ) (.reg barS) () (owedRecv c offs) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact (lv_bar c _).le)
    (fun g u hg => by obtain ⟨d, rfl⟩ := owedRecv_pos hg; rw [lv_recv]; decide)

end Cert.KProof

end
-- ==== Proof.Geometry.lean ====
/-
# 01_k — the elements the body's views cover, and what its copies leave there

Each view of the body is a fibre of a coordinate map: a slab of 256 columns of the gathered buffer, 256 rows of the cast
block, a chunk of a slot of the weight tiles, a chunk of the weights. What a copy writes through such a view is, on its
elements, the contents the protocol names.
-/
module

public import proofs.«01_k».proof.Proof.Protocol
public import Idealize.ShloMosaic.Lib.Pipeline.ValueKit.Tiles
public import Idealize.ShloMosaic.Lib.Pipeline.ValueKit.Geometry

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## Views as fibres -/

theorem off1_eq (c : Dev nD) : k0_off1 c = ![0, 256 * c.val] := k0_off1_eq c
theorem off2_eq (c : Dev nD) (d : Fin 15) : k0_off2 c (BitVec.ofNat 32 (1 + d.val)) = ![256 * (fwd c d).val, 0] := by
  rw [k0_off2_eq c d]; simp only [fwd]

/-- The slab a device writes is the columns of its own. -/
theorem colM_set (c : Dev nD) : (colM c).view.set = fib xdev c := by
  ext i
  show i ∈ ((View.whole cc0_scratch1).slice _).set ↔ _
  rw [View.set_slice_whole, Rect.mem_set_unit, off1_eq]
  have h0 : (i 0).val < 256 := (i 0).isLt
  have h1 : (i 1).val < 4096 := (i 1).isLt
  simp only [fib, Finset.mem_filter, Finset.mem_univ, true_and, xdev, Fin.ext_iff]
  constructor
  · intro h
    have := h 1
    change 256 * c.val ≤ (i 1).val ∧ (i 1).val < 256 * c.val + 256 at this
    omega
  · intro h a
    match a with
    | ⟨0, _⟩ => change 0 ≤ (i 0).val ∧ (i 0).val < 0 + 256; omega
    | ⟨1, _⟩ => change 256 * c.val ≤ (i 1).val ∧ (i 1).val < 256 * c.val + 256; omega

theorem rows_set (j : Dev nD) (off : Fin 2 → ℕ) (inb) (ho : off = ![256 * j.val, 0]) :
    (Rect.unit (s := S4096x256) off S256x256.size inb).set = fib rdev j := by
  ext i
  rw [Rect.mem_set_unit, ho]
  have h0 : (i 0).val < 4096 := (i 0).isLt
  have h1 : (i 1).val < 256 := (i 1).isLt
  simp only [fib, Finset.mem_filter, Finset.mem_univ, true_and, rdev, Fin.ext_iff]
  constructor
  · intro h
    have := h 0
    change 256 * j.val ≤ (i 0).val ∧ (i 0).val < 256 * j.val + 256 at this
    omega
  · intro h a
    match a with
    | ⟨0, _⟩ => change 256 * j.val ≤ (i 0).val ∧ (i 0).val < 256 * j.val + 256; omega
    | ⟨1, _⟩ => change 0 ≤ (i 1).val ∧ (i 1).val < 0 + 256; omega

/-- The rows a copy sends are those of the device it goes to, -/
theorem rowM_set (c : Dev nD) (d : Fin 15) : (rowM c d).view.set = fib rdev (fwd c d) := by
  show ((View.whole cc0_scratch0).slice _).set = _
  rw [View.set_slice_whole]; exact rows_set _ _ _ (off2_eq c d)
/-- and a device's own rows its own. -/
theorem ownRow_set (c : Dev nD) : x8M.view.setOn (ownRowR c).toLoadRect.set = fib rdev c := by
  show Finset.map (Function.Embedding.refl _) _ = _
  rw [Finset.map_refl]; exact rows_set _ _ _ (k0_off3_eq c)
theorem ownCol_set (c : Dev nD) : (xfM.access (ownColR c)).set = fib xdev c := by
  rw [← colM_set c]
  show ((View.whole cc0_scratch1).slice _).set = ((View.whole cc0_scratch1).slice _).set
  refine (View.set_slice_whole _ _).trans (Eq.trans ?_ (View.set_slice_whole _ _).symm)
  exact congrArg LoadRect.set (congrArg Rect.toLoadRect (Rect.unit_congr ((k0_off4_eq c).trans (off1_eq c).symm) _ _))

/-- Which chunk of which slot a place of the weight tiles is in, -/
def chix (i : S2x4096x1024.Idx) : Fin 2 × Fin 4 := (i 0, ⟨(i 1).val / 1024, by have h : (i 1).val < 4096 := (i 1).isLt; omega⟩)
/-- and which chunk of which tile a place of the weights. -/
def wsix (i : S4096x8192.Idx) : Fin 8 × Fin 4 :=
  (⟨(i 1).val / 1024, by have h : (i 1).val < 8192 := (i 1).isLt; omega⟩, ⟨(i 0).val / 1024, by have h : (i 0).val < 4096 := (i 0).isLt; omega⟩)

theorem mem_chix (i : S2x4096x1024.Idx) (s : Fin 2) (r : Fin 4) : i ∈ fib chix (s, r) ↔ (i 0).val = s.val ∧ (i 1).val / 1024 = r.val := by
  rw [Finset.mem_filter]
  constructor
  · rintro ⟨-, h⟩
    exact ⟨congrArg (fun p : Fin 2 × Fin 4 => p.1.val) h, congrArg (fun p : Fin 2 × Fin 4 => p.2.val) h⟩
  · rintro ⟨h0, h1⟩
    exact ⟨Finset.mem_univ _, Prod.ext (Fin.ext h0) (Fin.ext h1)⟩

theorem chunkM_set (s : Fin 2) (r : Fin 4) : (chunkM s r).view.set = fib chix (s, r) := by
  ext i
  show i ∈ (((View.whole cc0_scratch2).slice _).reshape _ _).set ↔ _
  rw [View.set_reshape, View.set_slice_whole, Rect.mem_set_unit]
  have h0 : (i 0).val < 2 := (i 0).isLt
  have h1 : (i 1).val < 4096 := (i 1).isLt
  have h2 : (i 2).val < 1024 := (i 2).isLt
  refine Iff.trans ?_ (mem_chix i s r).symm
  constructor
  · intro h
    have a0 := h 0
    have a1 := h 1
    change s.val ≤ (i 0).val ∧ (i 0).val < s.val + 1 at a0
    change r.val * 1024 ≤ (i 1).val ∧ (i 1).val < r.val * 1024 + 1024 at a1
    exact ⟨by omega, by omega⟩
  · rintro ⟨e0, e1⟩ a
    match a with
    | ⟨0, _⟩ => change s.val ≤ (i 0).val ∧ (i 0).val < s.val + 1; omega
    | ⟨1, _⟩ => change r.val * 1024 ≤ (i 1).val ∧ (i 1).val < r.val * 1024 + 1024; omega
    | ⟨2, _⟩ => change 0 ≤ (i 2).val ∧ (i 2).val < 0 + 1024; omega

theorem wsrcM_set (t : Fin 8) (r : Fin 4) : (wsrcM t r).view.set = fib wsix (t, r) := by
  ext i
  show i ∈ ((View.whole main_arg1).slice _).set ↔ _
  rw [View.set_slice_whole, Rect.mem_set_unit]
  have h0 : (i 0).val < 4096 := (i 0).isLt
  have h1 : (i 1).val < 8192 := (i 1).isLt
  simp only [fib, Finset.mem_filter, Finset.mem_univ, true_and, wsix, Prod.mk.injEq, Fin.ext_iff]
  constructor
  · intro h
    have a0 := h 0
    have a1 := h 1
    change r.val * 1024 ≤ (i 0).val ∧ (i 0).val < r.val * 1024 + 1024 at a0
    change t.val * 1024 ≤ (i 1).val ∧ (i 1).val < t.val * 1024 + 1024 at a1
    omega
  · intro h a
    match a with
    | ⟨0, _⟩ => change r.val * 1024 ≤ (i 0).val ∧ (i 0).val < r.val * 1024 + 1024; omega
    | ⟨1, _⟩ => change t.val * 1024 ≤ (i 1).val ∧ (i 1).val < t.val * 1024 + 1024; omega

/-- A load of a slot reads elements of that slot. -/
theorem tile_set (s : Fin 2) : wtM.view.setOn (tileR s).toLoadRect.set ⊆ fib (fun i => (chix i).1) s := by
  intro i hi
  change i ∈ Finset.map (Function.Embedding.refl _) _ at hi
  rw [Finset.map_refl, Rect.mem_set_unit] at hi
  have a0 := hi 0
  change s.val ≤ (i 0).val ∧ (i 0).val < s.val + 1 at a0
  exact Finset.mem_filter.mpr ⟨Finset.mem_univ _, Fin.ext (by show (i 0).val = s.val; omega)⟩

/-! ## What the copies write -/

omit [FloatOps F] in
theorem unit_val {s : Shape} {off off' size : Fin s.rank → ℕ} {inb} (ho : off = off') (x : (Rect.unit off size inb).shape.Idx) (a : Fin s.rank) :
    ((Rect.unit off size inb).emb x a).val = off' a + (x a).val := by
  subst ho; exact ValueKit.rect_emb_unit_val off size inb x a

theorem X8_congr (c : Dev nD) (y : S4096x256.Idx) (i : S256x4096.Idx) (j : Dev nD) (h1 : (i 1).val = 256 * c.val + (y 1).val)
    (h0 : (y 0).val = 256 * j.val + (i 0).val) : X8 m ρ c y = XF m ρ j i := by
  have hy : (y 1).val < 256 := (y 1).isLt
  have hd : xdev i = c := Fin.ext (by simp only [xdev]; omega)
  unfold XF
  rw [hd]
  congr 1
  rw [eq_ix2 y]
  unfold xrow
  congr 1
  · exact Fin.ext (by show (y 0).val = j.val * 256 + (i 0).val; omega)
  · exact Fin.ext (by show (y 1).val = (i 1).val % 256; omega)

/-- A copy of device `c` leaves in its slab of the buffer of the device it goes to what that buffer is to hold there. -/
theorem landed_eq (c : Dev nD) (d : Fin 15) (f : (cc0_scratch1 : Ref sig .tc).ty.Contents (Elt F)) (i) (hi : i ∈ fib xdev c) :
    (colM c).view.write (Elt F) f ((rowM c d).view.read (Elt F) (X8 m ρ c)) Finset.univ i = XF m ρ (fwd c d) i := by
  rw [← colM_set c] at hi
  obtain ⟨x, -, rfl⟩ := Finset.mem_map.mp hi
  rw [View.write_emb_of_mem _ _ (Finset.mem_univ _), View.read_apply]
  show X8 m ρ c ((Rect.unit (s := S4096x256) _ S256x256.size _).emb x) = XF m ρ (fwd c d) ((Rect.unit (s := S256x4096) _ S256x256.size _).emb x)
  refine X8_congr m ρ c _ _ _ ?_ ?_
  · rw [unit_val (off1_eq c), unit_val (off2_eq c d)]
    show 256 * c.val + (x 1).val = 256 * c.val + (0 + (x 1).val); omega
  · rw [unit_val (off2_eq c d), unit_val (off1_eq c)]
    show 256 * (fwd c d).val + (x 0).val = 256 * (fwd c d).val + (0 + (x 0).val); omega

/-- A device's store of its own rows leaves likewise. -/
theorem stored_eq (c : Dev nD) (f : (cc0_scratch1 : Ref sig .tc).ty.Contents (Elt F)) (i) (hi : i ∈ fib xdev c) :
    (xfM.access (ownColR c)).write (Elt F) f (k0_pay2 (x8M.view.readAt (Elt F) (ownRowR c).toLoadRect (X8 m ρ c))) Finset.univ i = XF m ρ c i := by
  rw [← ownCol_set c] at hi
  obtain ⟨x, -, rfl⟩ := Finset.mem_map.mp hi
  rw [View.write_emb_of_mem _ _ (Finset.mem_univ _)]
  unfold k0_pay2
  rw [shapeCast_self]
  show X8 m ρ c ((Rect.unit (s := S4096x256) _ S256x256.size _).emb x) = XF m ρ c ((Rect.unit (s := S256x4096) _ S256x256.size _).emb x)
  refine X8_congr m ρ c _ _ _ ?_ ?_
  · rw [unit_val (k0_off4_eq c), unit_val (k0_off3_eq c)]
    show 256 * c.val + (x 1).val = 256 * c.val + (0 + (x 1).val); omega
  · rw [unit_val (k0_off3_eq c), unit_val (k0_off4_eq c)]
    show 256 * c.val + (x 0).val = 256 * c.val + (0 + (x 0).val); omega

/-- A chunk's load leaves the tile's weights in its chunk. -/
theorem chunk_eq (c : Dev nD) (t : Fin 8) (s : Fin 2) (r : Fin 4) (f : (cc0_scratch2 : Ref sig .tc).ty.Contents (Elt F)) (i) (hi : i ∈ fib chix (s, r)) :
    (chunkM s r).view.write (Elt F) f ((wsrcM t r).view.read (Elt F) (Wt m ρ c)) Finset.univ i = WT m ρ c t i := by
  rw [← chunkM_set s r] at hi
  obtain ⟨x, -, rfl⟩ := Finset.mem_map.mp hi
  rw [View.write_emb_of_mem _ _ (Finset.mem_univ _), View.read_apply]
  show Wt m ρ c ((Rect.unit (s := S4096x8192) _ S1024x1024.size _).emb x)
    = Wt m ρ c (wix t ((Rect.unit (s := S2x4096x1024) _ S1x1024x1024.size _).emb (Shape.reshapeEquiv _ x)))
  congr 1
  have hq : Shape.reshapeEquiv squeezes_S1x1024x1024_S1024x1024.numel_eq x = ix3 (0 : Fin 1) (x 0 : Fin 1024) (x 1 : Fin 1024) :=
    (congrArg _ (eq_ix2 (n0 := 1024) (n1 := 1024) x)).trans (reshapeEquiv_ix2_1ab (a := 1024) (b := 1024) squeezes_S1x1024x1024_S1024x1024.numel_eq (x 0) (x 1))
  funext a
  match a with
  | ⟨0, _⟩ =>
    refine Fin.ext ?_
    show _ = (((Rect.unit (s := S2x4096x1024) _ S1x1024x1024.size _).emb (Shape.reshapeEquiv _ x)) 1).val
    rw [ValueKit.rect_emb_unit_val, ValueKit.rect_emb_unit_val]
    show r.val * 1024 + (x 0).val = r.val * 1024 + (Shape.reshapeEquiv _ x 1).val
    rw [hq]
  | ⟨1, _⟩ =>
    refine Fin.ext ?_
    show _ = t.val * 1024 + (((Rect.unit (s := S2x4096x1024) _ S1x1024x1024.size _).emb (Shape.reshapeEquiv _ x)) 2).val
    rw [ValueKit.rect_emb_unit_val, ValueKit.rect_emb_unit_val]
    show t.val * 1024 + (x 1).val = t.val * 1024 + (0 + (Shape.reshapeEquiv _ x 2).val)
    rw [hq]
    show t.val * 1024 + (x 1).val = t.val * 1024 + (0 + (x 1).val)
    omega

/-! ## The result's tiles -/

/-- Tile `t` of the weights, as the body reads it from its slot, -/
def WV (c : Dev nD) (t : Fin 8) : Vec F S1x4096x1024 .f32 := fun i => Wt m ρ c (ix2 (i 1 : Fin 4096) ⟨t.val * 1024 + (i 2).val, by
  have h : (i 2).val < 1024 := (i 2).isLt
  have := t.isLt; omega⟩)

theorem tile_read (c : Dev nD) (t : Fin 8) (s : Fin 2) : wtM.view.readAt (Elt F) (tileR s).toLoadRect (WT m ρ c t) = WV m ρ c t := by
  funext x
  rw [View.readAt_apply]
  show Wt m ρ c _ = Wt m ρ c _
  congr 1
  funext a
  match a with
  | ⟨0, _⟩ => exact Fin.ext ((Rect.idx_unit_val (s := S2x4096x1024) _ _ _ x 1).trans (Nat.zero_add _))
  | ⟨1, _⟩ =>
    refine Fin.ext ?_
    show t.val * 1024 + ((tileR s).idx x 2).val = t.val * 1024 + (x 2).val
    rw [Rect.idx_unit_val]
    show t.val * 1024 + (0 + (x 2).val) = t.val * 1024 + (x 2).val
    omega

/-- the scales and their product, -/
def sxv (c : Dev nD) : (cc0_stg1_0 : Ref sig .tc).ty.Contents (Elt F) := (win0_1.blk (0 : Fin 1)).view.read (Elt F) ((s₀ m ρ).mem ((c : Thread nD τ).loc main_arg2))
def swv (c : Dev nD) : (cc0_stg2_0 : Ref sig .tc).ty.Contents (Elt F) := (win0_2.blk (0 : Fin 1)).view.read (Elt F) ((s₀ m ρ).mem ((c : Thread nD τ).loc main_arg3))
/-- the one place of a scale, -/
abbrev s0 : S1.Idx := Shape.Idx.first (numel1_S1.symm ▸ Nat.one_pos)
def scale (c : Dev nD) : F .f32 := k0_pay3 (sxv m ρ c s0) (swv m ρ c s0)

def otile (i : S256x8192.Idx) : Fin 8 := ⟨(i 1).val / 1024, by have h : (i 1).val < 8192 := (i 1).isLt; omega⟩
/-- and the device's result: its tiles side by side. -/
def OUT (c : Dev nD) : (cc0_stg3_0 : Ref sig .tc).ty.Contents (Elt F) := fun i =>
  tileVal (scale m ρ c) (XF m ρ c) (WV m ρ c (otile i)) (ix2 (i 0 : Fin 256) ⟨(i 1).val % 1024, Nat.mod_lt _ (by decide)⟩)

/-- After tile `t` is stored over contents that hold the tiles before it, they hold the tiles up to it. -/
theorem out_step (c : Dev nD) (t : Fin 8) (f : (cc0_stg3_0 : Ref sig .tc).ty.Contents (Elt F)) (hf : ∀ i, (otile i).val < t.val → f i = OUT m ρ c i)
    (i) (hi : (otile i).val < t.val + 1) :
    (oM.access (outR t)).write (Elt F) f (tileVal (scale m ρ c) (XF m ρ c) (WV m ρ c t)) Finset.univ i = OUT m ρ c i := by
  by_cases h : i ∈ (oM.access (outR t)).set
  · obtain ⟨x, -, rfl⟩ := Finset.mem_map.mp h
    rw [View.write_emb_of_mem _ _ (Finset.mem_univ _)]
    show tileVal (scale m ρ c) (XF m ρ c) (WV m ρ c t) x = OUT m ρ c ((outR t).emb x)
    have e0 : ((outR t).emb x 0).val = 0 + (x 0).val := ValueKit.rect_emb_unit_val (s := S256x8192) _ _ _ x 0
    have e1 : ((outR t).emb x 1).val = t.val * 1024 + (x 1).val := ValueKit.rect_emb_unit_val (s := S256x8192) _ _ _ x 1
    have hx : (x 1).val < 1024 := (x 1).isLt
    have ht : otile ((outR t).emb x) = t := Fin.ext (by show _ / 1024 = t.val; rw [e1]; omega)
    unfold OUT
    rw [ht]
    congr 1
    funext a
    match a with
    | ⟨0, _⟩ => exact Fin.ext (by show (x 0).val = ((outR t).emb x 0).val; rw [e0]; omega)
    | ⟨1, _⟩ => exact Fin.ext (by show (x 1).val = ((outR t).emb x 1).val % 1024; rw [e1]; omega)
  · rw [View.write_of_not_mem _ _ _ h]
    refine hf i ?_
    by_contra hn
    have ht : (otile i).val = t.val := by omega
    refine h ?_
    show i ∈ ((View.whole cc0_stg3_0).slice (outR t)).set
    rw [View.set_slice_whole, Rect.mem_set_unit]
    have h0 : (i 0).val < 256 := (i 0).isLt
    change (i 1).val / 1024 = t.val at ht
    intro a
    match a with
    | ⟨0, _⟩ => change 0 ≤ (i 0).val ∧ (i 0).val < 0 + 256; omega
    | ⟨1, _⟩ => change t.val * 1024 ≤ (i 1).val ∧ (i 1).val < t.val * 1024 + 1024; omega

end Cert.KProof

end
-- ==== Proof.Loops.lean ====
/-
# 01_k — the body's loops

One rule for a loop over a list, and from it one for each loop of the handshake and of the copies: the signals, the
copies, the arrivals, the departures.
-/
module

public import proofs.«01_k».proof.Proof.Geometry

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `k` on device `c` ends with `Q`. -/
abbrev wpc (c : Dev nD) (k : P F) (Q : PUnit → sProp 𝕄) : sProp 𝕄 := wp frame (wpE (defs₀ (F := F)) 𝒱₀ (c : Thread nD τ) none) Set.univ k Q

/-! ## A loop over a list -/

/-- Something for each entry of a list. -/
def sepL {T : Type} (l : List T) (Φ : T → sProp 𝕄) : sProp 𝕄 := l.foldr (fun d R => iprop(Φ d ∗ R)) iprop(emp)

omit [FloatOps F] in
theorem sepL_cons {T : Type} (d : T) (l : List T) (Φ : T → sProp 𝕄) : sepL (d :: l) Φ = iprop(Φ d ∗ sepL l Φ) := rfl
omit [FloatOps F] in
theorem sepL_eq {T : Type} [DecidableEq T] (l : List T) (hl : l.Nodup) (Φ : T → sProp 𝕄) : bigSep l.toFinset Φ = sepL l Φ := by
  induction l with
  | nil => rw [List.toFinset_nil, bigSep_empty]; rfl
  | cons d l ih =>
    obtain ⟨h1, h2⟩ := List.nodup_cons.mp hl
    rw [List.toFinset_cons, bigSep_insert (fun h => h1 (List.mem_toFinset.mp h)), ih h2]; rfl
omit [FloatOps F] in
theorem sepL_congr {T : Type} (l : List T) {Φ Ψ : T → sProp 𝕄} (h : ∀ d, Φ d = Ψ d) : sepL l Φ = sepL l Ψ := congrArg _ (funext h)
omit [FloatOps F] in
theorem sepL_mono {T : Type} (l : List T) {Φ Ψ : T → sProp 𝕄} (h : ∀ d, Φ d ⊢ Ψ d) : sepL l Φ ⊢ sepL l Ψ := by
  induction l with
  | nil => exact Entails.refl _
  | cons d l ih => exact BI.sep_mono (h d) ih
omit [FloatOps F] in
theorem sepL_sep {T : Type} (l : List T) (Φ Ψ : T → sProp 𝕄) : sepL l (fun d => iprop(Φ d ∗ Ψ d)) ⊢ iprop(sepL l Φ ∗ sepL l Ψ) := by
  induction l with
  | nil => iintro -; isplitl; · iempintro
           · iempintro
  | cons d l ih =>
    rw [sepL_cons, sepL_cons, sepL_cons]
    iintro ⟨⟨H1, H2⟩, H⟩
    ihave H' := ih $$ H
    icases H' with ⟨H3, H4⟩
    isplitl [H1 H3]
    · isplitl [H1] <;> iassumption
    · isplitl [H2] <;> iassumption
omit [FloatOps F] in
theorem sepL_join {T : Type} (l : List T) (Φ Ψ : T → sProp 𝕄) : iprop(sepL l Φ ∗ sepL l Ψ) ⊢ sepL l (fun d => iprop(Φ d ∗ Ψ d)) := by
  induction l with
  | nil => iintro -; iempintro
  | cons d l ih =>
    rw [sepL_cons, sepL_cons, sepL_cons]
    iintro ⟨⟨H1, H3⟩, H2, H4⟩
    isplitl [H1 H2]
    · isplitl [H1] <;> iassumption
    · iapply ih
      isplitl [H3] <;> iassumption

/-- A loop whose step at `d` turns `A d` into `B d`, keeping `S` of what is left of the list. -/
theorem wp_loop {T : Type} (c : Dev nD) (op : T → P F → P F) (A B : T → sProp 𝕄) (S : List T → sProp 𝕄) (Q : PUnit → sProp 𝕄)
    (h : ∀ d l k, iprop(A d ∗ S (d :: l)) ⊢ iprop((iprop(B d ∗ S l) -∗ wpc c k Q) -∗ wpc c (op d k) Q)) (l : List T) (k : P F) :
    iprop(sepL l A ∗ S l) ⊢ iprop((iprop(sepL l B ∗ S []) -∗ wpc c k Q) -∗ wpc c (l.foldr op k) Q) := by
  induction l with
  | nil =>
    iintro ⟨-, HS⟩ Hk
    iapply Hk
    isplitr; · iempintro
    iexact HS
  | cons d l ih =>
    rw [sepL_cons, sepL_cons, List.foldr_cons]
    iintro ⟨⟨HA, HL⟩, HS⟩ Hk
    iapply (h d l (l.foldr op k)) $$ [HA HS]
    · isplitl [HA] <;> iassumption
    iintro ⟨HB, HS⟩
    iapply ih $$ [HL HS]
    · isplitl [HL] <;> iassumption
    iintro ⟨HL, HS⟩
    iapply Hk
    isplitl [HB HL]
    · isplitl [HB] <;> iassumption
    · iexact HS

/-! ## What every device knows -/

/-- Every cell's invariant, under the names the launch allocated them at, and that its first round is reached. -/
def records (K : Dev nD × Kd → ℕ) : sProp 𝕄 :=
  iprop(bigSep Finset.univ (fun ck => cellInv ER (Rd m ρ) (K ck) (kcell ck)) ∗ bigSep Finset.univ (fun ck => reached ER (kcell ck) 0))

instance records_persistent (K : Dev nD × Kd → ℕ) : BI.Persistent (records m ρ K) := by unfold records; infer_instance

theorem inv_at (K : Dev nD × Kd → ℕ) (ck : Dev nD × Kd) : records m ρ K ⊢ cellInv ER (Rd m ρ) (K ck) (kcell ck) := by
  unfold records; exact sep_elim_left.trans (bigSep_elim (Finset.mem_univ ck))
theorem reached_at (K : Dev nD × Kd → ℕ) (ck : Dev nD × Kd) : records m ρ K ⊢ reached ER (kcell ck) 0 := by
  unfold records; exact sep_elim_right.trans (bigSep_elim (Finset.mem_univ ck))

variable (K : Dev nD × Kd → ℕ)

/-- A device that owes nothing more. -/
def free (c : Dev nD) : sProp 𝕄 := iprop(∃ W : Waits sig Unit, owes (c : Thread nD τ) 0 W)

/-! ## The handshake -/

/-- The signals: each hands the device it goes to the slab of this device's gathered buffer that device writes. -/
theorem wp_signals (c : Dev nD) (W : Waits sig Unit) (Q : PUnit → sProp 𝕄) (k : P F) :
    iprop(sepL offs (fun d => iprop((∃ f, colPts (fwd c d) c f) ∗ dutyTok ER (barCell (fwd c d)) 0 d)) ∗ records m ρ K ∗ owes (c : Thread nD τ) (O₀ c) W)
      ⊢ iprop((iprop(sepL offs (fun _ => iprop(emp)) ∗ records m ρ K ∗ owes (c : Thread nD τ) (owedRecv c offs) W) -∗ wpc c k Q)
        -∗ wpc c (offs.foldr (sigOp c) k) Q) := by
  refine wp_loop c (sigOp c) (fun d => iprop((∃ f, colPts (fwd c d) c f) ∗ dutyTok ER (barCell (fwd c d)) 0 d)) (fun _ => iprop(emp))
    (fun l => iprop(records m ρ K ∗ owes (c : Thread nD τ) (owedBar c l) W)) Q ?_ offs k
  intro d l k
  unfold sigOp
  iintro ⟨⟨Hf, Ht⟩, #HR, HO⟩ Hk
  iapply (Rounds.wp_signal 𝒱₀ ER (Rd m ρ) (c : Thread nD τ) none (dst := (fwd c d : Thread nD τ)) (κ := K (fwd c d, .inl ()))
      (d := d) (by rw [duties_bar]; exact Finset.mem_univ _) ((amount_bar m ρ (fwd c d) d).trans (by decide)) () (owedBar c l) rfl)
    $$ [HO Ht Hf]
  · isplitr; · iapply (inv_at m ρ K (fwd c d, .inl ())); iexact HR
    isplitl [HO]; · iexact HO
    isplitl [Ht]; · iexact Ht
    isplitl [Hf]; · rw [payload_bar, bwd_fwd]; iexact Hf
    iapply (reached_at m ρ K (fwd c d, .inl ())); iexact HR
  iintro HO
  iapply Hk
  isplitr; · iempintro
  isplitr; · iexact HR
  iexact HO

/-- The wait: it brings the slab of each other device that this one writes, and its cell is closed. -/
theorem wp_bar (c : Dev nD) (W : Waits sig Unit) (Q : PUnit → sProp 𝕄) (k : P F) :
    iprop(records m ρ K ∗ levAts L lv ∗ cred (tallyAt (barCell c) () 15) ∗ atPos ER (barCell c) 0 ∅ 0 ∗ owes (c : Thread nD τ) (owedRecv c offs) W)
      ⊢ iprop((iprop((bigSep Finset.univ fun d => iprop(∃ f, colPts c (bwd c d) f)) ∗ semVal (barCell c) 0
            ∗ owes (c : Thread nD τ) (owedRecv c offs) (insert (SemLoc.reg barS, ()) W)) -∗ wpc c k Q)
        -∗ wpc c (barOp k) Q) := by
  unfold barOp
  iintro ⟨#HR, #Hlev, Hc, Hat, HO⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := owedRecv c offs) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [Hp]; · iexact Hp
  isplitl [Hz]; · iexact Hz
  iexact HO

/-! ## The copies -/

omit [FloatOps F] in
theorem rowPts_eq (c : Dev nD) (d : Fin 15) (f : (cc0_scratch0 : Ref sig .tc).ty.Contents (Elt F)) :
    (rowPts c (fwd c d) f : sProp 𝕄) = ((rowM c d).view.loc (c : Thread nD τ) ↦[(rowM c d).view.set]{fullShare} f) := by rw [rowM_set]; rfl
omit [FloatOps F] in
theorem colPts_eq (c j : Dev nD) (f : (cc0_scratch1 : Ref sig .tc).ty.Contents (Elt F)) :
    (colPts c j f : sProp 𝕄) = ((colM c).view.loc (j : Thread nD τ) ↦[(colM c).view.set]{fullShare} f) := by rw [colM_set]; rfl

/-- The copies: each takes the rows and the slab they go to. -/
theorem wp_sends (c : Dev nD) (W : Waits sig Unit) (Q : PUnit → sProp 𝕄) (k : P F) :
    iprop(sepL offs (fun d => iprop((rowPts c (fwd c d) (X8 m ρ c) ∗ (∃ f, colPts c (fwd c d) f))
          ∗ dutyTok ER (sendCell c d) 0 0 ∗ dutyTok ER (recvCell (fwd c d) d) 0 0))
        ∗ records m ρ K ∗ owes (c : Thread nD τ) (owedRecv c offs) W)
      ⊢ iprop((iprop(sepL offs (fun d => cred (tallyAt (sendCell c d) () N)) ∗ records m ρ K ∗ owes (c : Thread nD τ) 0 W) -∗ wpc c k Q)
        -∗ wpc c (offs.foldr (sendOp c) k) Q) := by
  refine wp_loop c (sendOp c) (fun d => iprop((rowPts c (fwd c d) (X8 m ρ c) ∗ (∃ f, colPts c (fwd c d) f))
          ∗ dutyTok ER (sendCell c d) 0 0 ∗ dutyTok ER (recvCell (fwd c d) d) 0 0)) (fun d => cred (tallyAt (sendCell c d) () N))
    (fun l => iprop(records m ρ K ∗ owes (c : Thread nD τ) (owedRecv c l) W)) Q ?_ offs k
  intro d l k
  unfold sendOp
  simp only [rowPts_eq, colPts_eq]
  iintro ⟨⟨⟨Hr, ⟨%f, Hf⟩⟩, HtS, HtV⟩, #HR, HO⟩ Hk
  iapply (Rounds.wp_send_pointsTo 𝒱₀ ER (Rd m ρ) (c : Thread nD τ) none (κ₁ := K (c, .inr (.inl d))) (κ₂ := K (fwd c d, .inr (.inr d)))
    (r₁ := 0) (r₂ := 0) (d₁ := 0) (d₂ := 0) (fd := f)
    (by rw [duties_send]; exact Finset.mem_singleton_self _) (by rw [duties_recv]; exact Finset.mem_singleton_self _)
    () () N rfl (amount_send m ρ c d 0) (amount_recv m ρ (fwd c d) d 0) (owedRecv c l) rfl (W := W)
    (by rw [payload_send, rowPts_eq])
    (by rw [payload_recv, bwd_fwd, colPts_eq]
        exact Entails.of_eq (pointsTo_congr fun i hi => landed_eq m ρ c d f i (by rw [← colM_set c]; exact hi)))) $$ [Hr Hf HO HtS HtV]
  · isplitr; · iapply (inv_at m ρ K (c, .inr (.inl d))); iexact HR
    isplitr; · iapply (inv_at m ρ K (fwd c d, .inr (.inr d))); iexact HR
    isplitl [Hr]; · iexact Hr
    isplitl [Hf]; · iexact Hf
    isplitl [HO]; · iexact HO
    isplitl [HtS]; · iexact HtS
    isplitr; · iapply (reached_at m ρ K (c, .inr (.inl d))); iexact HR
    isplitl [HtV]; · iexact HtV
    iapply (reached_at m ρ K (fwd c d, .inr (.inr d))); iexact HR
  iintro ⟨Hc, HO⟩
  iapply Hk
  isplitl [Hc]; · iexact Hc
  isplitr; · iexact HR
  iexact HO

/-- A wait on a cell of a single duty: its payload comes, and the cell is closed. -/
theorem wp_wait_one (c : Dev nD) (q : DmaSem sig) (κ : ℕ) (hI : records m ρ K ⊢ cellInv ER (Rd m ρ) κ ((c : Thread nD τ), .dma q)) (hx : (Rd (F := F) m ρ).expect ((c : Thread nD τ), SemLoc.dma q) 0 = N)
    (R : sProp 𝕄) (hR : bigSep ((Rd (F := F) m ρ).duties ((c : Thread nD τ), SemLoc.dma q) 0 \ ∅) (fun d => (Rd (F := F) m ρ).payload ((c : Thread nD τ), SemLoc.dma q) 0 d) = R)
    {s : Shape} {ty : EltTy} {sp sp' : Space} {src : Memref sig .tc sp' s ty} {dst : Memref sig .tc sp s ty} {hs : src.view.WordExact} {hd : dst.view.WordExact}
    (hN : dst.view.dmaCredit = N) (Q : PUnit → sProp 𝕄) (k : P F) :
    iprop((cred (tallyAt ((c : Thread nD τ), SemLoc.dma q) () N) ∗ atPos ER ((c : Thread nD τ), SemLoc.dma q) 0 ∅ 0) ∗ records m ρ K ∗ free c)
      ⊢ iprop((iprop((R ∗ semVal ((c : Thread nD τ), SemLoc.dma q) 0) ∗ records m ρ K ∗ free c) -∗ wpc c k Q)
        -∗ wpc c (Prog.op (.waitDma2 q src dst hs hd) fun _ => k) Q) := by
  unfold free
  iintro ⟨⟨Hc, Hat⟩, #HR, ⟨%W, HO⟩⟩ Hk
  ihave #HI := hI $$ HR
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hx]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hR) $$ Hpay
  imod (Rounds.cell_close ER (Rd m ρ) (Set.mem_univ κ) (fun h => h) (R := 0 + 1) (duties_later m ρ _)) $$ [Hat] with Hz
  · isplitr; · iexact HI
    iexact Hat
  iapply Hk
  isplitl [Hp Hz]
  · isplitl [Hp] <;> iassumption
  isplitr; · iexact HR
  iexists _; iexact HO

/-- The arrivals: each brings a slab of this device's gathered buffer, filled. -/
theorem wp_recvs (c : Dev nD) (Q : PUnit → sProp 𝕄) (k : P F) :
    iprop(sepL offs (fun d => iprop(cred (tallyAt (recvCell c d) () N) ∗ atPos ER (recvCell c d) 0 ∅ 0)) ∗ records m ρ K ∗ free c)
      ⊢ iprop((iprop(sepL offs (fun d => iprop(colPts (bwd c d) c (XF m ρ c) ∗ semVal (recvCell c d) 0)) ∗ records m ρ K ∗ free c) -∗ wpc c k Q)
        -∗ wpc c (offs.foldr (recvOp c) k) Q) :=
  wp_loop c (recvOp c) (fun d => iprop(cred (tallyAt (recvCell c d) () N) ∗ atPos ER (recvCell c d) 0 ∅ 0))
    (fun d => iprop(colPts (bwd c d) c (XF m ρ c) ∗ semVal (recvCell c d) 0)) (fun _ => iprop(records m ρ K ∗ free c)) Q
    (fun d _ k => wp_wait_one m ρ K c (recvS d) _ (inv_at m ρ K (c, .inr (.inr d))) (expect_recv m ρ c d) _ (rest_recv m ρ c d) rfl Q k) offs k

/-- The departures: each brings the rows sent back. -/
theorem wp_gones (c : Dev nD) (Q : PUnit → sProp 𝕄) (k : P F) :
    iprop(sepL offs (fun d => iprop(cred (tallyAt (sendCell c d) () N) ∗ atPos ER (sendCell c d) 0 ∅ 0)) ∗ records m ρ K ∗ free c)
      ⊢ iprop((iprop(sepL offs (fun d => iprop(rowPts c (fwd c d) (X8 m ρ c) ∗ semVal (sendCell c d) 0)) ∗ records m ρ K ∗ free c) -∗ wpc c k Q)
        -∗ wpc c (offs.foldr (goneOp c) k) Q) :=
  wp_loop c (goneOp c) (fun d => iprop(cred (tallyAt (sendCell c d) () N) ∗ atPos ER (sendCell c d) 0 ∅ 0))
    (fun d => iprop(rowPts c (fwd c d) (X8 m ρ c) ∗ semVal (sendCell c d) 0)) (fun _ => iprop(records m ρ K ∗ free c)) Q
    (fun d _ k => wp_wait_one m ρ K c (sendS d) _ (inv_at m ρ K (c, .inr (.inl d))) (expect_send m ρ c d) _ (rest_send m ρ c d) rfl Q k) offs k

end Cert.KProof

end
-- ==== Proof.Pieces.lean ====
/-
# 01_k — a buffer in pieces

A coordinate map cuts a buffer into its fibres. The body gets each buffer whole, hands pieces of it to the other devices
and to the loads, and puts it together again at the end.
-/
module

public import proofs.«01_k».proof.Proof.Loops
public import Idealize.ShloMosaic.Lib.Ring

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Fibres -/

section Fibres
variable {ℓ : Loc nD τ sig} {A B : Type} [Fintype A] [DecidableEq A] [Fintype B] [DecidableEq B]

theorem fib_disjoint {I : Type} [Fintype I] [DecidableEq I] (g : I → B) (a b : B) (h : a ≠ b) : Disjoint (fib g a) (fib g b) :=
  Finset.disjoint_left.mpr fun _ hi hj => h ((Finset.mem_filter.mp hi).2.symm.trans (Finset.mem_filter.mp hj).2)
theorem fib_cover {I : Type} [Fintype I] [DecidableEq I] (g : I → B) : Finset.univ.biUnion (fib g) = Finset.univ := by
  ext i; simp only [Finset.mem_biUnion, Finset.mem_filter, Finset.mem_univ, true_and, exists_eq']
theorem fib_pair_cover {I : Type} [Fintype I] [DecidableEq I] (g : I → A × B) (a : A) :
    Finset.univ.biUnion (fun b => fib g (a, b)) = fib (fun i => (g i).1) a := by
  ext i
  simp only [Finset.mem_biUnion, Finset.mem_filter, Finset.mem_univ, true_and]
  exact ⟨fun ⟨r, h⟩ => congrArg Prod.fst h, fun h => ⟨(g i).2, Prod.ext h rfl⟩⟩

omit [FloatOps F] in
/-- A buffer is the fibres of a map of its indices; -/
theorem pointsTo_fib (g : Idx ℓ → B) (f : Buf (Elt F) ℓ) : (ℓ ↦{fullShare} f : sProp 𝕄) = bigSep Finset.univ fun b => ℓ ↦[fib g b]{fullShare} f :=
  Ring.pointsTo_blocks (fib g) (fib_disjoint g) (fib_cover g) f
omit [FloatOps F] in
/-- fibres at contents of their own make the buffer at some; -/
theorem pointsTo_fib_join (g : Idx ℓ → B) (f₀ : Buf (Elt F) ℓ) :
    bigSep Finset.univ (fun b => iprop(∃ f, ℓ ↦[fib g b]{fullShare} f)) ⊢ (iprop(∃ f, ℓ ↦{fullShare} f) : sProp 𝕄) :=
  Ring.pointsTo_blocks_join_exists (fib g) (fib_disjoint g) (fib_cover g) f₀
omit [FloatOps F] in
/-- and a fibre of one of two maps is the fibres of the pair. -/
theorem pointsTo_fib_pair (g : Idx ℓ → A × B) (a : A) (f : Buf (Elt F) ℓ) :
    (ℓ ↦[fib (fun i => (g i).1) a]{fullShare} f : sProp 𝕄) = bigSep Finset.univ fun b => ℓ ↦[fib g (a, b)]{fullShare} f :=
  Ring.pointsTo_sub_blocks (fun b => fib g (a, b)) (fun b b' h => fib_disjoint g _ _ fun e => h (congrArg Prod.snd e)) _ (fib_pair_cover g a) f

end Fibres

/-! ## The other devices -/

theorem offs_univ : offs.toFinset = (Finset.univ : Finset (Fin 15)) := by decide
theorem offs_nodup : offs.Nodup := by decide
omit [FloatOps F] in
theorem offs_eq (Φ : Fin 15 → sProp 𝕄) : bigSep Finset.univ Φ = sepL offs Φ := by rw [← offs_univ, sepL_eq offs offs_nodup]

def fwdEmb (c : Dev nD) : Fin 15 ↪ Dev nD := ⟨fwd c, by revert c; decide⟩
theorem others_eq (c : Dev nD) : (Finset.univ : Finset (Dev nD)).erase c = Finset.univ.map (fwdEmb c) := by revert c; decide

omit [FloatOps F] in
/-- What every device has is what one has and what the fifteen after it have, -/
theorem dev_split (c : Dev nD) (Φ : Dev nD → sProp 𝕄) : bigSep Finset.univ Φ = iprop(Φ c ∗ sepL offs fun d => Φ (fwd c d)) := by
  rw [bigSep_univ_split c, others_eq c, ← offs_eq]
  refine congrArg (fun R : sProp 𝕄 => iprop(Φ c ∗ R)) ?_
  exact bigSep_map (fwdEmb c)
omit [FloatOps F] in
/-- or the fifteen before it, in the other order. -/
theorem bwd_fwd_sep (c : Dev nD) (Φ : Dev nD → sProp 𝕄) : (bigSep Finset.univ fun d => Φ (bwd c d)) = sepL offs fun d => Φ (fwd c d) := by
  rw [← offs_eq, bigSep_univ_equiv Fin.revPerm (fun d => Φ (bwd c d))]
  refine bigSep_congr fun d _ => ?_
  rw [bwd_eq]; simp only [Fin.revPerm_apply, Fin.rev_rev]

end Cert.KProof

end
-- ==== Proof.Tiles.lean ====
/-
# 01_k — the tiles of the result

Tile `t` of the weights goes, in four chunks, to slot `t mod 2`; while the body is at tile `t` the loads of `t` and
`t + 1` are in flight. The loop over the tiles keeps those two loads, the gathered buffer, and the result's buffer holding
the tiles done.
-/
module

public import proofs.«01_k».proof.Proof.Pieces

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Pieces -/

/-- A chunk of a slot, -/
def chunkPts (c : Dev nD) (s : Fin 2) (r : Fin 4) (f : (cc0_scratch2 : Ref sig .tc).ty.Contents (Elt F)) : sProp 𝕄 :=
  ((c : Thread nD τ).loc cc0_scratch2) ↦[fib chix (s, r)]{fullShare} f
/-- a slot, -/
def slotPts (c : Dev nD) (s : Fin 2) (f : (cc0_scratch2 : Ref sig .tc).ty.Contents (Elt F)) : sProp 𝕄 :=
  ((c : Thread nD τ).loc cc0_scratch2) ↦[fib (fun i => (chix i).1) s]{fullShare} f
/-- and the rows of a tile of the weights that fill a chunk. -/
def wPts (c : Dev nD) (t : Fin 8) (r : Fin 4) : sProp 𝕄 := ((c : Thread nD τ).loc main_arg1) ↦[fib wsix (t, r)]{fullShare} Wt m ρ c

omit [FloatOps F] in
theorem chunkPts_eq (c : Dev nD) (s : Fin 2) (r : Fin 4) (f : (cc0_scratch2 : Ref sig .tc).ty.Contents (Elt F)) :
    (chunkPts c s r f : sProp 𝕄) = ((chunkM s r).view.loc (c : Thread nD τ) ↦[(chunkM s r).view.set]{fullShare} f) := by rw [chunkM_set]; rfl
theorem wPts_eq (c : Dev nD) (t : Fin 8) (r : Fin 4) :
    wPts m ρ c t r = ((wsrcM t r).view.loc (c : Thread nD τ) ↦[(wsrcM t r).view.set]{fullShare} Wt m ρ c) := by rw [wsrcM_set]; rfl

omit [FloatOps F] in
theorem slotPts_view (c : Dev nD) (s : Fin 2) (f : (cc0_scratch2 : Ref sig .tc).ty.Contents (Elt F)) :
    (slotPts c s f : sProp 𝕄) = (wtM.view.loc (c : Thread nD τ) ↦[fib (fun i => (chix i).1) s]{fullShare} f) := rfl

theorem chunks_univ : chunks.toFinset = (Finset.univ : Finset (Fin 4)) := by decide

omit [FloatOps F] in
/-- A slot is its four chunks. -/
theorem slot_eq (c : Dev nD) (s : Fin 2) (f : (cc0_scratch2 : Ref sig .tc).ty.Contents (Elt F)) :
    (slotPts c s f : sProp 𝕄) = sepL chunks fun r => chunkPts c s r f := by
  rw [← sepL_eq chunks (by decide), chunks_univ]
  exact pointsTo_fib_pair (ℓ := (c : Thread nD τ).loc cc0_scratch2) chix s f

/-! ## A tile's load -/

/-- What one chunk's load delivers. -/
def landedChunk (c : Dev nD) (t : Fin 8) (r : Fin 4) : sProp 𝕄 := iprop(chunkPts c (slot t) r (WT m ρ c t) ∗ wPts m ρ c t r)
/-- A chunk's load in flight, -/
def flightAt (c : Dev nD) (t : Fin 8) (r : Fin 4) : sProp 𝕄 :=
  Flight EC (c : Thread nD τ) (.dma (wS (slot t) r)) () (chunkM (slot t) r).view.dmaCredit (landedChunk m ρ c t r)
/-- and a chunk of a slot at rest. -/
def idleAt (c : Dev nD) (s : Fin 2) (r : Fin 4) : sProp 𝕄 := iprop((∃ f, chunkPts c s r f) ∗ semVal ((c : Thread nD τ), .dma (wS s r)) 0)

theorem wp_wstart (c : Dev nD) (t : Fin 8) (Q : PUnit → sProp 𝕄) (k : P F) :
    iprop(sepL chunks (fun r => iprop(idleAt c (slot t) r ∗ wPts m ρ c t r)) ∗ emp)
      ⊢ iprop((iprop(sepL chunks (flightAt m ρ c t) ∗ emp) -∗ wpc c k Q) -∗ wpc c (wstart t k) Q) := by
  refine wp_loop c (wstartOp t) (fun r => iprop(idleAt c (slot t) r ∗ wPts m ρ c t r)) (flightAt m ρ c t) (fun _ => iprop(emp)) Q ?_ chunks k
  intro r _ k
  unfold wstartOp idleAt
  simp only [chunkPts_eq, wPts_eq]
  iintro ⟨⟨⟨⟨%f, Hf⟩, Hv⟩, Hw⟩, -⟩ Hk
  iapply (wp_dmaLocal EC 𝒱₀ (c : Thread nD τ) none () (chunkM (slot t) r).view.dmaCredit rfl ((chunkM (slot t) r).view.dmaCredit_pos (by decide)) (Finset.Subset.refl _)) $$ [Hf Hv Hw]
  · isplitl [Hw]; · iexact Hw
    isplitl [Hf]; · iexact Hf
    iexact Hv
  iintro HF
  iapply Hk
  isplitl [HF]
  · unfold flightAt
    iapply (Flight_mono EC (c : Thread nD τ) ?_) $$ HF
    unfold landedChunk
    rw [chunkPts_eq, wPts_eq]
    exact BI.sep_mono (Entails.of_eq (pointsTo_congr fun i hi => chunk_eq m ρ c t (slot t) r f i (by rw [← chunkM_set]; exact hi))) (Entails.refl _)
  · iempintro

theorem wp_wwait (c : Dev nD) (t : Fin 8) (Q : PUnit → sProp 𝕄) (k : P F) :
    iprop(sepL chunks (flightAt m ρ c t) ∗ free c)
      ⊢ iprop((iprop(sepL chunks (fun r => iprop(landedChunk m ρ c t r ∗ semVal ((c : Thread nD τ), .dma (wS (slot t) r)) 0)) ∗ free c) -∗ wpc c k Q)
        -∗ wpc c (wwait t k) Q) := by
  refine wp_loop c (wwaitOp t) (flightAt m ρ c t) (fun r => iprop(landedChunk m ρ c t r ∗ semVal ((c : Thread nD τ), .dma (wS (slot t) r)) 0)) (fun _ => free c) Q ?_ chunks k
  intro r _ k
  unfold wwaitOp flightAt free
  iintro ⟨HF, ⟨%W, HO⟩⟩ Hk
  iapply (wp_waitLocal EC 𝒱₀ (c : Thread nD τ) none () rfl) $$ [HF HO]
  · isplitl [HF] <;> iassumption
  iintro ⟨HD, Hv, HO⟩
  iapply Hk
  isplitl [HD Hv]
  · isplitl [HD] <;> iassumption
  · iexists _; iexact HO

/-! ## The loop -/

/-- The slot tile `n` goes to. -/
def sl (n : ℕ) : Fin 2 := ⟨n % 2, Nat.mod_lt _ (by decide)⟩

/-- At the time of tile `n`: its load in flight, or, there being no such tile, its slot at rest. -/
def fly (c : Dev nD) (n : ℕ) : sProp 𝕄 := if h : n < 8 then sepL chunks (flightAt m ρ c ⟨n, h⟩) else sepL chunks (idleAt c (sl n))
/-- The rows of the tile after next, if there is one. -/
def ahead (c : Dev nD) (n : ℕ) : sProp 𝕄 := if h : n + 2 < 8 then sepL chunks (wPts m ρ c ⟨n + 2, h⟩) else iprop(emp)
/-- The result's buffer with the tiles before `n`. -/
def outPts (c : Dev nD) (n : ℕ) : sProp 𝕄 :=
  iprop(∃ f : (cc0_stg3_0 : Ref sig .tc).ty.Contents (Elt F), ⌜∀ i, (otile i).val < n → f i = OUT m ρ c i⌝ ∗ (((c : Thread nD τ).loc cc0_stg3_0) ↦{fullShare} f))
def xfPts (c : Dev nD) : sProp 𝕄 := ((c : Thread nD τ).loc cc0_scratch1) ↦{fullShare} XF m ρ c

/-- The loop's state before tile `n`. -/
def tileSt (c : Dev nD) (n : ℕ) : sProp 𝕄 := iprop(fly m ρ c n ∗ fly m ρ c (n + 1) ∗ outPts m ρ c n ∗ xfPts m ρ c ∗ free c)

omit [FloatOps F] in
theorem hz2 : (![0, 0] : Fin 2 → Nat) = fun _ => 0 := funext fun a => by fin_cases a <;> rfl

/-- After a tile its slot is at rest, and the tile after next is begun. -/
theorem wp_wnext (c : Dev nD) (t : Fin 8) (Q : PUnit → sProp 𝕄) (k : P F) :
    iprop(sepL chunks (idleAt c (slot t)) ∗ ahead m ρ c t.val)
      ⊢ iprop((fly m ρ c (t.val + 2) -∗ wpc c k Q) -∗ wpc c (wnext t k) Q) := by
  have hs : sl (t.val + 2) = slot t := Fin.ext (Nat.add_mod_right _ _)
  unfold wnext ahead fly
  by_cases h : t.val + 2 < 8
  · rw [dif_pos h, dif_pos h, dif_pos h]
    have hs' : slot ⟨t.val + 2, h⟩ = slot t := hs
    iintro ⟨Hi, Hw⟩ Hk
    iapply (wp_wstart m ρ c ⟨t.val + 2, h⟩ Q k) $$ [Hi Hw]
    · isplitl
      · rw [hs']
        iapply (sepL_join chunks _ _)
        isplitl [Hi] <;> iassumption
      · iempintro
    iintro ⟨HF, -⟩
    iapply Hk; iexact HF
  · rw [dif_neg h, dif_neg h, dif_neg h, hs]
    iintro ⟨Hi, -⟩ Hk
    iapply Hk; iexact Hi

/-- One tile. -/
theorem wp_tile (c : Dev nD) (t : Fin 8) (Q : PUnit → sProp 𝕄) (k : P F) :
    iprop(ahead m ρ c t.val ∗ tileSt m ρ c t.val)
      ⊢ iprop((iprop(sepL chunks (wPts m ρ c t) ∗ tileSt m ρ c (t.val + 1)) -∗ wpc c k Q) -∗ wpc c (tileOp (scale m ρ c) t k) Q) := by
  unfold tileSt tileOp outPts
  have hfly : fly m ρ c t.val = sepL chunks (flightAt m ρ c t) := dif_pos t.isLt
  rw [hfly]
  iintro ⟨Ha, Hf, Hf1, ⟨%f, %hf, Ho⟩, Hxf, HO⟩ Hk
  iapply (wp_wwait m ρ c t Q _) $$ [Hf HO]
  · isplitl [Hf] <;> iassumption
  iintro ⟨Hl, HO⟩
  ihave Hl := (sepL_sep chunks _ _) $$ Hl
  icases Hl with ⟨Hl, Hz⟩
  unfold landedChunk
  ihave Hl := (sepL_sep chunks _ _) $$ Hl
  icases Hl with ⟨Hc, Hw⟩
  ihave Hs := (Entails.of_eq (slot_eq c (slot t) (WT m ρ c t)).symm) $$ Hc
  unfold xfPts
  iapply (wp_load 𝒱₀ (c : Thread nD τ) none Set.univ (m := xfM) (Finset.subset_univ _)) $$ Hxf; iintro Hxf
  rw [show xfM.view.readAt (Elt F) xfR.toLoadRect (XF m ρ c) = XF m ρ c from Memref.readAt_unit_zero (Elt F) cc0_scratch1 hz2 _ _]
  ihave Hs := (Entails.of_eq (slotPts_view c (slot t) (WT m ρ c t))) $$ Hs
  iapply (wp_load 𝒱₀ (c : Thread nD τ) none Set.univ (m := wtM) (tile_set (slot t))) $$ Hs; iintro Hs
  ihave Hs := (Entails.of_eq (slotPts_view c (slot t) (WT m ρ c t)).symm) $$ Hs
  rw [tile_read]
  iapply (wp_load 𝒱₀ (c : Thread nD τ) none Set.univ (m := oM) (Finset.subset_univ _)) $$ Ho; iintro Ho
  iapply (wp_store 𝒱₀ (c : Thread nD τ) none Set.univ (m := oM) (r := outR t) (Mk := Finset.univ) (Finset.subset_univ _)) $$ Ho; iintro Ho
  ihave Hs := (Entails.of_eq (slot_eq c (slot t) (WT m ρ c t))) $$ Hs
  iapply (wp_wnext m ρ c t Q k) $$ [Hs Hz Ha]
  · isplitl [Hs Hz]
    · ihave H := (sepL_join chunks _ _) $$ [Hs Hz]
      · isplitl [Hs] <;> iassumption
      iapply (sepL_mono chunks fun r => ?_) $$ H
      unfold idleAt
      iintro ⟨H1, H2⟩
      isplitl [H1]
      · iexists _; iexact H1
      · iexact H2
    · iexact Ha
  iintro Hf2
  iapply Hk
  isplitl [Hw]; · iexact Hw
  isplitl [Hf1]; · iexact Hf1
  isplitl [Hf2]; · iexact Hf2
  isplitl [Ho]
  · iexists _
    isplitr
    · ipureintro; exact fun i hi => out_step m ρ c t f hf i hi
    iexact Ho
  isplitl [Hxf]; · iexact Hxf
  iexact HO

/-- All the tiles. -/
theorem wp_tiles (c : Dev nD) (Q : PUnit → sProp 𝕄) (k : P F) :
    iprop(sepL tiles (fun t => ahead m ρ c t.val) ∗ tileSt m ρ c 0)
      ⊢ iprop((iprop(sepL tiles (fun t => sepL chunks (wPts m ρ c t)) ∗ tileSt m ρ c 8) -∗ wpc c k Q) -∗ wpc c (tiles.foldr (tileOp (scale m ρ c)) k) Q) := by
  have hd : ∀ (t : Fin 8) (l : List (Fin 8)), t :: l = tiles.drop (8 - (t :: l).length) → 8 - (t :: l).length = t.val ∧ 8 - l.length = t.val + 1 ∧ l = tiles.drop (8 - l.length) := by
    intro t l h
    have hlt : ∀ n : Fin 9, tiles.drop n.val = [] ∨ ∃ u : Fin 8, u.val = n.val ∧ tiles.drop n.val = u :: tiles.drop (n.val + 1) ∧ (tiles.drop (n.val + 1)).length = 7 - n.val := by decide
    obtain h' | ⟨u, hu, h', hl⟩ := hlt ⟨8 - (t :: l).length, by omega⟩
    · rw [← h] at h'; exact absurd h' (List.cons_ne_nil _ _)
    · simp only at h' hu hl
      rw [← h] at h'
      obtain ⟨e1, e2⟩ := List.cons.inj h'
      rw [← e2] at hl
      have := u.isLt
      subst e1
      refine ⟨hu.symm, by omega, ?_⟩
      rw [show 8 - l.length = 8 - (t :: l).length + 1 by omega]; exact e2
  have hloop := wp_loop c (tileOp (scale m ρ c)) (fun t => ahead m ρ c t.val) (fun t => sepL chunks (wPts m ρ c t))
    (fun l => iprop(⌜l = tiles.drop (8 - l.length)⌝ ∗ tileSt m ρ c (8 - l.length))) Q (by
    intro t l k
    iintro ⟨Ha, %h, Ht⟩ Hk
    obtain ⟨h1, h2, h3⟩ := hd t l h
    rw [h1, h2]
    iapply (wp_tile m ρ c t Q k) $$ [Ha Ht]
    · isplitl [Ha] <;> iassumption
    iintro ⟨Hw, Ht⟩
    iapply Hk
    isplitl [Hw]; · iexact Hw
    isplitr; · ipureintro; rw [← h2]; exact h3
    iexact Ht) tiles k
  iintro ⟨Ha, Ht⟩ Hk
  iapply hloop $$ [Ha Ht]
  · isplitl [Ha]; · iexact Ha
    isplitr; · ipureintro; rfl
    iexact Ht
  iintro ⟨Hw, -, Ht⟩
  iapply Hk
  isplitl [Hw]; · iexact Hw
  iexact Ht

end Cert.KProof

end
-- ==== Proof.Body.lean ====
/-
# 01_k — the body, run

One run of the body on a device, from what the launch gives it to what it leaves.
-/
module

public import proofs.«01_k».proof.Proof.Tiles

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their pieces -/

/-- A buffer of device `c`, whole. -/
abbrev whole (c : Dev nD) (b : Ref sig .tc) (f : b.ty.Contents (Elt F)) : sProp 𝕄 := ((c : Thread nD τ).loc b) ↦{fullShare} f

omit [FloatOps F] in
theorem scr0_eq (c : Dev nD) (f : (cc0_scratch0 : Ref sig .tc).ty.Contents (Elt F)) :
    (whole c cc0_scratch0 f : sProp 𝕄) = iprop(rowPts c c f ∗ sepL offs fun d => rowPts c (fwd c d) f) :=
  (pointsTo_fib (ℓ := (c : Thread nD τ).loc cc0_scratch0) rdev f).trans (dev_split c fun j => rowPts c j f)
omit [FloatOps F] in
theorem scr1_eq (c : Dev nD) (f : (cc0_scratch1 : Ref sig .tc).ty.Contents (Elt F)) :
    (whole c cc0_scratch1 f : sProp 𝕄) = iprop(colPts c c f ∗ sepL offs fun d => colPts (fwd c d) c f) :=
  (pointsTo_fib (ℓ := (c : Thread nD τ).loc cc0_scratch1) xdev f).trans (dev_split c fun j => colPts j c f)
omit [FloatOps F] in
theorem scr2_eq (c : Dev nD) (f : (cc0_scratch2 : Ref sig .tc).ty.Contents (Elt F)) :
    (whole c cc0_scratch2 f : sProp 𝕄) = iprop((sepL chunks fun r => chunkPts c 0 r f) ∗ sepL chunks fun r => chunkPts c 1 r f) := by
  rw [← slot_eq, ← slot_eq]
  exact (pointsTo_fib (ℓ := (c : Thread nD τ).loc cc0_scratch2) (fun i => (chix i).1) f).trans (bigSep_fin_two _)

theorem chunks_eq (Φ : Fin 4 → sProp 𝕄) : bigSep Finset.univ Φ = sepL chunks Φ := by rw [← chunks_univ, sepL_eq chunks (by decide)]
theorem tiles_eq (Φ : Fin 8 → sProp 𝕄) : bigSep Finset.univ Φ = sepL tiles Φ := by
  rw [← sepL_eq tiles (by decide)]; exact congrArg (fun S => bigSep S Φ) (by decide)

/-- The slots' chunks, each at contents of its own, are the buffer at some. -/
theorem scr2_join (c : Dev nD) (f₀ : (cc0_scratch2 : Ref sig .tc).ty.Contents (Elt F)) :
    iprop((sepL chunks fun r => iprop(∃ f, chunkPts c 0 r f)) ∗ sepL chunks fun r => iprop(∃ f, chunkPts c 1 r f))
      ⊢ (iprop(∃ f, whole c cc0_scratch2 f) : sProp 𝕄) := by
  refine Entails.trans (Entails.of_eq ?_) (pointsTo_fib_join (ℓ := (c : Thread nD τ).loc cc0_scratch2) chix f₀)
  rw [bigSep_univ_prod, bigSep_fin_two, chunks_eq, chunks_eq]
  rfl

/-- The weights are the rows of the eight tiles. -/
theorem w_eq (c : Dev nD) : whole c main_arg1 (Wt m ρ c) = sepL tiles fun t => sepL chunks (wPts m ρ c t) := by
  refine (pointsTo_fib (ℓ := (c : Thread nD τ).loc main_arg1) wsix (Wt m ρ c)).trans ?_
  rw [bigSep_univ_prod, tiles_eq]
  exact sepL_congr tiles fun t => chunks_eq _

/-- Of them the first two tiles' and those ahead of each tile. -/
theorem w_ahead (c : Dev nD) :
    (sepL tiles fun t => sepL chunks (wPts m ρ c t))
      ⊢ iprop(sepL chunks (wPts m ρ c 0) ∗ sepL chunks (wPts m ρ c 1) ∗ sepL tiles (fun t => ahead m ρ c t.val)) := by
  have h : ∀ t : Fin 6, ahead m ρ c t.val = sepL chunks (wPts m ρ c ⟨t.val + 2, by omega⟩) := fun t => dif_pos (by omega)
  have h6 : ahead m ρ c 6 = iprop(emp) := dif_neg (by decide)
  have h7 : ahead m ρ c 7 = iprop(emp) := dif_neg (by decide)
  unfold tiles
  simp only [sepL_cons]
  iintro ⟨H0, H1, H2, H3, H4, H5, H6, H7, He⟩
  isplitl [H0]; · iexact H0
  isplitl [H1]; · iexact H1
  isplitl [H2]; · iapply (Entails.of_eq (h 0).symm); iexact H2
  isplitl [H3]; · iapply (Entails.of_eq (h 1).symm); iexact H3
  isplitl [H4]; · iapply (Entails.of_eq (h 2).symm); iexact H4
  isplitl [H5]; · iapply (Entails.of_eq (h 3).symm); iexact H5
  isplitl [H6]; · iapply (Entails.of_eq (h 4).symm); iexact H6
  isplitl [H7]; · iapply (Entails.of_eq (h 5).symm); iexact H7
  isplitr; · iapply (Entails.of_eq h6.symm); iempintro
  isplitr; · iapply (Entails.of_eq h7.symm); iempintro
  iexact He

theorem fly_lt (c : Dev nD) (n : ℕ) (h : n < 8) : fly m ρ c n = sepL chunks (flightAt m ρ c ⟨n, h⟩) := dif_pos h

/-! ## What a device starts from and what it leaves -/

variable (K : Dev nD × Kd → ℕ)

/-- Its positions and the tokens of the duties it pays. -/
def linear (c : Dev nD) : sProp 𝕄 :=
  iprop((atPos ER (barCell c) 0 ∅ 0 ∗ sepL offs (fun d => atPos ER (sendCell c d) 0 ∅ 0) ∗ sepL offs (fun d => atPos ER (recvCell c d) 0 ∅ 0))
    ∗ sepL offs (fun d => dutyTok ER (barCell (fwd c d)) 0 d) ∗ sepL offs (fun d => dutyTok ER (sendCell c d) 0 0)
    ∗ sepL offs (fun d => dutyTok ER (recvCell (fwd c d) d) 0 0))
/-- Its credits. -/
def creds (c : Dev nD) : sProp 𝕄 := iprop(cred (tallyAt (barCell c) () 15) ∗ sepL offs (fun d => cred (tallyAt (recvCell c d) () N)))
/-- The counters of the tiles' loads. -/
def wSems (c : Dev nD) : sProp 𝕄 :=
  iprop((sepL chunks fun r => semVal ((c : Thread nD τ), .dma (wS 0 r)) 0) ∗ sepL chunks fun r => semVal ((c : Thread nD τ), .dma (wS 1 r)) 0)
/-- The scratch buffers, at some contents. -/
def scratch (c : Dev nD) : sProp 𝕄 := iprop((∃ f, whole c cc0_scratch0 f) ∗ (∃ f, whole c cc0_scratch1 f) ∗ (∃ f, whole c cc0_scratch2 f))
/-- The staged operands. -/
def staged (c : Dev nD) : sProp 𝕄 := iprop(whole c cc0_stg0_0 (xstg m ρ c) ∗ whole c cc0_stg1_0 (sxv m ρ c) ∗ whole c cc0_stg2_0 (swv m ρ c))

def bodyPre (c : Dev nD) : sProp 𝕄 :=
  iprop((records m ρ K ∗ linear c ∗ creds c ∗ levAts L lv) ∗ wSems c ∗ whole c main_arg1 (Wt m ρ c) ∗ scratch c ∗ staged m ρ c ∗ (∃ f, whole c cc0_stg3_0 f))

def bodyPost (c : Dev nD) : sProp 𝕄 :=
  iprop((semVal (barCell c) 0 ∗ sepL offs (fun d => semVal (sendCell c d) 0) ∗ sepL offs (fun d => semVal (recvCell c d) 0))
    ∗ wSems c ∗ whole c main_arg1 (Wt m ρ c) ∗ scratch c ∗ staged m ρ c ∗ whole c cc0_stg3_0 (OUT m ρ c) ∗ free c)

omit [FloatOps F] in
theorem hz1 : (![0] : Fin 1 → Nat) = fun _ => 0 := funext fun a => by fin_cases a; rfl

theorem idle_intro (c : Dev nD) (s : Fin 2) (f : (cc0_scratch2 : Ref sig .tc).ty.Contents (Elt F)) :
    iprop((sepL chunks fun r => chunkPts c s r f) ∗ sepL chunks fun r => semVal ((c : Thread nD τ), .dma (wS s r)) 0) ⊢ sepL chunks (idleAt (F := F) c s) := by
  refine (sepL_join chunks _ _).trans (sepL_mono chunks fun r => ?_)
  unfold idleAt
  iintro ⟨H1, H2⟩
  isplitl [H1]
  · iexists f; iexact H1
  · iexact H2

/-- The body on device `c`. -/
theorem wp_body (c : Dev nD) (W : Waits sig Unit) (Q : PUnit → sProp 𝕄) :
    iprop(bodyPre m ρ K c ∗ owes (c : Thread nD τ) (O₀ c) W) ⊢ iprop((bodyPost m ρ c -∗ Q ⟨⟩) -∗ wpc c (body c) Q) := by
  unfold bodyPre linear creds wSems scratch staged body
  iintro ⟨⟨⟨#HR, ⟨⟨HaB, HaS, HaV⟩, HtB, HtS, HtV⟩, ⟨HcB, HcV⟩, #Hlev⟩, ⟨Hz0, Hz1⟩, Hw, ⟨⟨%g0, H0⟩, ⟨%g1, H1⟩, ⟨%g2, H2⟩⟩, ⟨Hx, Hsx, Hsw⟩, ⟨%go, Ho⟩⟩, HO⟩ Hk
  -- the cast
  iapply (wp_load 𝒱₀ (c : Thread nD τ) none Set.univ (m := xM) (Finset.subset_univ _)) $$ Hx; iintro Hx
  rw [show xM.view.readAt (Elt F) xR.toLoadRect (xstg m ρ c) = xstg m ρ c from Memref.readAt_unit_zero (Elt F) cc0_stg0_0 hz2 _ _]
  iapply (wp_load 𝒱₀ (c : Thread nD τ) none Set.univ (m := x8M) (Finset.subset_univ _)) $$ H0; iintro H0
  iapply (wp_store 𝒱₀ (c : Thread nD τ) none Set.univ (m := x8M) (r := xR) (Mk := Finset.univ) (Finset.subset_univ _)) $$ H0; iintro H0
  rw [show (x8M.access xR).write (Elt F) g0 (k0_pay1 (xstg m ρ c)) Finset.univ = X8 m ρ c from
    Memref.write_access_unit_zero_univ (Elt F) cc0_scratch0 hz2 _ g0 _]
  -- the first two tiles' loads
  ihave Hw := (Entails.of_eq (w_eq m ρ c)) $$ Hw
  ihave Hw := (w_ahead m ρ c) $$ Hw
  icases Hw with ⟨Hw0, Hw1, Hah⟩
  ihave H2 := (Entails.of_eq (scr2_eq c g2)) $$ H2
  icases H2 with ⟨H20, H21⟩
  iapply (wp_wstart m ρ c 0 Q _) $$ [H20 Hz0 Hw0]
  · isplitl
    · iapply (sepL_join chunks _ _)
      isplitl [H20 Hz0]
      · iapply (idle_intro c 0 g2)
        isplitl [H20] <;> iassumption
      · iexact Hw0
    · iempintro
  iintro ⟨Hf0, -⟩
  iapply (wp_wstart m ρ c 1 Q _) $$ [H21 Hz1 Hw1]
  · isplitl
    · iapply (sepL_join chunks _ _)
      isplitl [H21 Hz1]
      · iapply (idle_intro c 1 g2)
        isplitl [H21] <;> iassumption
      · iexact Hw1
    · iempintro
  iintro ⟨Hf1, -⟩
  -- the handshake
  ihave H1 := (Entails.of_eq (scr1_eq c g1)) $$ H1
  icases H1 with ⟨H1o, H1⟩
  iapply (wp_signals m ρ K c W Q _) $$ [H1 HtB HO]
  · isplitl [H1 HtB]
    · iapply (sepL_join offs _ _)
      isplitl [H1]
      · iapply (sepL_mono offs fun d => ?_) $$ H1
        iintro H; iexists g1; iexact H
      · iexact HtB
    isplitr; · iexact HR
    iexact HO
  iintro ⟨-, -, HO⟩
  iapply (wp_bar m ρ K c W Q _) $$ [HcB HaB HO]
  · isplitr; · iexact HR
    isplitr; · iexact Hlev
    isplitl [HcB]; · iexact HcB
    isplitl [HaB]; · iexact HaB
    iexact HO
  iintro ⟨Hp, HzB, HO⟩
  ihave Hp := (Entails.of_eq (bwd_fwd_sep c fun j => iprop(∃ f, colPts c j f))) $$ Hp
  -- the copies
  ihave H0 := (Entails.of_eq (scr0_eq c (X8 m ρ c))) $$ H0
  icases H0 with ⟨H0o, H0⟩
  iapply (wp_sends m ρ K c _ Q _) $$ [H0 Hp HtS HtV HO]
  · isplitl [H0 Hp HtS HtV]
    · iapply (sepL_join offs _ _)
      isplitl [H0 Hp]
      · iapply (sepL_join offs _ _)
        isplitl [H0] <;> iassumption
      · iapply (sepL_join offs _ _)
        isplitl [HtS] <;> iassumption
    isplitr; · iexact HR
    iexact HO
  iintro ⟨HcS, -, HO⟩
  -- its own rows
  unfold rowPts colPts
  iapply (wp_load 𝒱₀ (c : Thread nD τ) none Set.univ (m := x8M) (ownRow_set c).subset) $$ H0o; iintro H0o
  iapply (wp_load 𝒱₀ (c : Thread nD τ) none Set.univ (m := xfM) (show Finset.map xfM.view.emb (ownColR c).toLoadRect.set ⊆ fib xdev c by rw [← View.set_slice]; exact (ownCol_set c).subset)) $$ H1o; iintro H1o
  iapply (wp_store 𝒱₀ (c : Thread nD τ) none Set.univ (m := xfM) (r := ownColR c) (Mk := Finset.univ) (ownCol_set c).subset) $$ H1o; iintro H1o
  ihave H1o := (Entails.of_eq (pointsTo_congr fun i hi => stored_eq m ρ c g1 i hi)) $$ H1o
  -- the arrivals
  iapply (wp_recvs m ρ K c Q _) $$ [HcV HaV HO]
  · isplitl [HcV HaV]
    · iapply (sepL_join offs _ _)
      isplitl [HcV] <;> iassumption
    isplitr; · iexact HR
    unfold free; iexists _; iexact HO
  iintro ⟨H1, -, HO⟩
  ihave H1 := (sepL_sep offs _ _) $$ H1
  icases H1 with ⟨H1, HzV⟩
  ihave H1 := (Entails.of_eq ((offs_eq _).symm.trans (bwd_fwd_sep c fun j => colPts j c (XF m ρ c)))) $$ H1
  ihave H1 := (Entails.of_eq (scr1_eq c (XF m ρ c)).symm) $$ [H1o H1]
  · isplitl [H1o]
    · unfold colPts; iexact H1o
    · iexact H1
  -- the scales
  iapply (wp_load 𝒱₀ (c : Thread nD τ) none Set.univ (m := sxM) (Finset.subset_univ _)) $$ Hsx; iintro Hsx
  rw [show sxM.view.readAt (Elt F) sR.toLoadRect (sxv m ρ c) = sxv m ρ c from Memref.readAt_unit_zero (Elt F) cc0_stg1_0 hz1 _ _]
  iapply (wp_load 𝒱₀ (c : Thread nD τ) none Set.univ (m := swM) (Finset.subset_univ _)) $$ Hsw; iintro Hsw
  rw [show swM.view.readAt (Elt F) sR.toLoadRect (swv m ρ c) = swv m ρ c from Memref.readAt_unit_zero (Elt F) cc0_stg2_0 hz1 _ _]
  -- the tiles
  iapply (wp_tiles m ρ c Q _) $$ [Hah Hf0 Hf1 Ho H1 HO]
  · isplitl [Hah]; · iexact Hah
    unfold tileSt outPts xfPts
    isplitl [Hf0]; · iapply (Entails.of_eq (fly_lt m ρ c 0 (by decide)).symm); iexact Hf0
    isplitl [Hf1]; · iapply (Entails.of_eq (fly_lt m ρ c 1 (by decide)).symm); iexact Hf1
    isplitl [Ho]
    · iexists go
      isplitr; · ipureintro; exact fun i hi => absurd hi (Nat.not_lt_zero _)
      iexact Ho
    isplitl [H1]; · iexact H1
    iexact HO
  unfold tileSt outPts xfPts
  iintro ⟨Hw, Hf0, Hf1, ⟨%fo, %hfo, Ho⟩, H1, HO⟩
  have hfo' : fo = OUT m ρ c := funext fun i => hfo i (otile i).isLt
  subst hfo'
  -- the departures
  iapply (wp_gones m ρ K c Q _) $$ [HcS HaS HO]
  · isplitl [HcS HaS]
    · iapply (sepL_join offs _ _)
      isplitl [HcS] <;> iassumption
    isplitr; · iexact HR
    iexact HO
  iintro ⟨H0, -, HO⟩
  ihave H0 := (sepL_sep offs _ _) $$ H0
  icases H0 with ⟨H0, HzS⟩
  ihave H0 := (Entails.of_eq (scr0_eq c (X8 m ρ c)).symm) $$ [H0o H0]
  · isplitl [H0o]
    · unfold rowPts; iexact H0o
    · iexact H0
  ihave Hw := (Entails.of_eq (w_eq m ρ c).symm) $$ Hw
  ihave Hf0 := (Entails.of_eq (show fly m ρ c 8 = sepL chunks (idleAt (F := F) c 0) from dif_neg (by omega))) $$ Hf0
  ihave Hf1 := (Entails.of_eq (show fly m ρ c (8 + 1) = sepL chunks (idleAt (F := F) c 1) from dif_neg (by omega))) $$ Hf1
  unfold idleAt
  ihave Hf0 := (sepL_sep chunks _ _) $$ Hf0
  icases Hf0 with ⟨H20, Hz0⟩
  ihave Hf1 := (sepL_sep chunks _ _) $$ Hf1
  icases Hf1 with ⟨H21, Hz1⟩
  ihave H2 := (scr2_join c g2) $$ [H20 H21]
  · isplitl [H20] <;> iassumption
  unfold wpc; rw [wp_ret]; imodintro
  iapply Hk
  unfold bodyPost wSems scratch staged
  isplitl [HzB HzS HzV]
  · isplitl [HzB]; · iexact HzB
    isplitl [HzS] <;> iassumption
  isplitl [Hz0 Hz1]
  · isplitl [Hz0] <;> iassumption
  isplitl [Hw]; · iexact Hw
  isplitl [H0 H1 H2]
  · isplitl [H0]; · iexists _; iexact H0
    isplitl [H1]; · iexists _; iexact H1
    iexact H2
  isplitl [Hx Hsx Hsw]
  · isplitl [Hx]; · iexact Hx
    isplitl [Hsx] <;> iassumption
  isplitl [Ho]; · iexact Ho
  iexact HO

end Cert.KProof

end
-- ==== Proof.BodyEq.lean ====
/-
# 01_k — the printed body is the program of loops
-/
module

public import proofs.«01_k».proof.Proof.Shape

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-- Two programs that begin with equal operations and go on equally are equal. -/
theorem op_congr.{v} {E : Type → Type v} {α β : Type} {e e' : E α} {k k' : α → Prog E β} (he : e = e') (hk : ∀ x, k x = k' x) :
    Prog.op e k = Prog.op e' k' := by rw [he, funext hk]

/-- Two copies to equal devices, alike otherwise, are one operation. -/
theorem remote_congr {s : Shape} {e : EltTy} {src dst : Memref sig .tc .vmem s e} {sS rS : SemLoc sig} {n n' : Dev nD} (h : n = n')
    {hsc : (dst : Memref sig (Dev.tc n : Thread nD τ).2.kind .vmem s e).view.ref.isScScratch = false}
    {hsc' : (dst : Memref sig (Dev.tc n' : Thread nD τ).2.kind .vmem s e).view.ref.isScScratch = false}
    {a : src.view.WordExact} {b : dst.view.WordExact}
    {ht : DmaTarget.Typed .vmem rS (.remote (Dev.tc n : Thread nD τ) (dst : Memref sig (Dev.tc n : Thread nD τ).2.kind .vmem s e) sS hsc)}
    {ht' : DmaTarget.Typed .vmem rS (.remote (Dev.tc n' : Thread nD τ) (dst : Memref sig (Dev.tc n' : Thread nD τ).2.kind .vmem s e) sS hsc')} :
    (TpuEff.enqueueDma src (.remote (Dev.tc n : Thread nD τ) dst sS hsc) rS a b ht : TpuEff nD τ sig (Elt F) Λ₀ .tc PUnit)
      = TpuEff.enqueueDma src (.remote (Dev.tc n' : Thread nD τ) dst sS hsc') rS a b ht' := by subst h; rfl

set_option maxHeartbeats 4000000 in
set_option maxRecDepth 65536 in
/-- The printed body reads its device and then is the program of loops on it. -/
theorem cc0_body_eq :
    cc0_body (F := F) xM (Memref.isWhole_whole _) wM (Memref.isWhole_whole _) sxM (Memref.isWhole_whole _) swM (Memref.isWhole_whole _)
      oM (Memref.isWhole_whole _) x8M (Memref.isWhole_whole _) xfM (Memref.isWhole_whole _) wtM (Memref.isWhole_whole _)
      cc0_scratch3 cc0_scratch4 cc0_scratch5
      = Prog.op .deviceId fun c => body c := by
  rw [cc0_body_eq_skeleton]; unfold cc0_body_skel
  rw [k0_part33_eq_skeleton]; unfold k0_part33_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel k0_part24_skel k0_part25_skel k0_part26_skel k0_part27_skel
    k0_part28_skel k0_part29_skel k0_part30_skel k0_part31_skel k0_part32_skel
  simp only [semSignalWord, semWaitWord, smemLoad, smemLoadElt, Prog.lift, Prog.bind_op, Prog.bind_ret, Prog.pure_eq_ret]
  refine congrArg (Prog.op _) (funext fun c => ?_)
  simp only [k0_dev1_eq, k0_dev2_eq, k0_dev3_eq, k0_dev4_eq, k0_dev5_eq, k0_dev6_eq, k0_dev7_eq, k0_dev8_eq, k0_dev9_eq, k0_dev10_eq, k0_dev11_eq,
    k0_dev12_eq, k0_dev13_eq, k0_dev14_eq, k0_dev15_eq]
  unfold body
  simp only [sigOp, barOp, sendOp, recvOp, goneOp, wstartOp, wwaitOp, wnext, wstart, wwait, offs, chunks, tiles, tileOp, List.foldr]
  repeat first
    | refine op_congr (remote_congr (Fin.ext (by
        simp only [k0_dev16_eq, k0_dev17_eq, k0_dev18_eq, k0_dev19_eq, k0_dev20_eq, k0_dev21_eq, k0_dev22_eq, k0_dev23_eq, k0_dev24_eq, k0_dev25_eq,
          k0_dev26_eq, k0_dev27_eq, k0_dev28_eq, k0_dev29_eq, k0_dev30_eq]
        rfl))) fun _ => ?_
    | refine op_congr rfl fun _ => ?_
  rfl

end Cert.KProof

end
-- ==== Proof.Run.lean ====
/-
# 01_k — the run

The body under the pipeline, the launch that deals each device its cells and its tokens, and the run of the sixteen
devices: the result array of each holds the tiles it computed, the arguments are unchanged, every counter is zero.
-/
module

public import proofs.«01_k».proof.Proof.Body
public import proofs.«01_k».proof.Proof.BodyEq
public import proofs.«01_k».proof.Proof.Gen.KernelIdeal.Points
public import proofs.«01_k».proof.Proof.Gen.KernelIdeal.Launch
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

abbrev t₀ : Fin cfg0.N := t0_0
theorem fin_N (t : Fin cfg0.N) : t = t₀ := fin_N0 t

/-- What a device's body starts from beside its scratch buffers, -/
def start (c : Dev nD) : sProp 𝕄 :=
  iprop((∃ K, records m ρ K ∗ linear c ∗ wSems c) ∗ creds c ∗ levAts L lv ∗ whole c main_arg1 (Wt m ρ c))
def Φ₀ (c : Dev nD) : sProp 𝕄 := iprop(start m ρ c ∗ scratch c)
/-- and what it leaves. -/
def Φ₁ (c : Dev nD) : sProp 𝕄 :=
  iprop((semVal (barCell c) 0 ∗ sepL offs (fun d => semVal (sendCell c d) 0) ∗ sepL offs (fun d => semVal (recvCell c d) 0))
    ∗ wSems c ∗ whole c main_arg1 (Wt m ρ c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxv m ρ c
    | ⟨2, _⟩ => swv m ρ c
    | ⟨3, _⟩ => OUT m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 := iprop(∃ f, ⌜f = X⌝ ∗ whole c b f)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre' (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

def post' (c : Dev nD) : sProp 𝕄 :=
  iprop(Φ₁ m ρ c ∗ (dats m ρ 0 c).owesAt () t₀.succ
    ∗ stg c cc0_stg0_0 (xstg m ρ c) ∗ stg c cc0_stg1_0 (sxv m ρ c) ∗ stg c cc0_stg2_0 (swv m ρ c) ∗ stg c cc0_stg3_0 (OUT m ρ c))

/-- The body as the pipeline calls it. -/
theorem sound_body (c : Dev nD) :
    pre' m ρ c ⊢ wp frame (wpE (defs₀ (F := F)) 𝒱₀ c none) Set.univ
      (cc0_body (F := F) xM (Memref.isWhole_whole _) wM (Memref.isWhole_whole _) sxM (Memref.isWhole_whole _) swM (Memref.isWhole_whole _)
        oM (Memref.isWhole_whole _) x8M (Memref.isWhole_whole _) xfM (Memref.isWhole_whole _) wtM (Memref.isWhole_whole _)
        cc0_scratch3 cc0_scratch4 cc0_scratch5) (fun _ => post' m ρ c) := by
  rw [cc0_body_eq, wp_deviceId]
  unfold pre' Φ₀ start Dat.owesAt Pipeline.owesWithin
  iintro ⟨⟨⟨⟨%K, #HR, Hl, Hz⟩, Hc, #Hlev, Hw⟩, Hs⟩, ⟨%W, %hW, HO⟩, ⟨%d0, %g0, %h0, H0⟩, ⟨%d1, %g1, %h1, H1⟩, ⟨%d2, %g2, %h2, H2⟩, ⟨%d3, %g3, %h3, H3⟩⟩
  have e0 : g0 = xstg m ρ c := by rw [h0]; unfold Dat.before; rw [if_pos (fetch0_0 t₀)]; rfl
  have e1 : g1 = sxv m ρ c := by rw [h1]; unfold Dat.before; rw [if_pos (fetch0_1 t₀)]; rfl
  have e2 : g2 = swv m ρ c := by rw [h2]; unfold Dat.before; rw [if_pos (fetch0_2 t₀)]; rfl
  subst e0; subst e1; subst e2
  iapply (wp_body m ρ K c W (fun _ => post' m ρ c)) $$ [Hl Hz Hc Hw Hs HO H0 H1 H2 H3]
  · isplitr [HO]
    · unfold bodyPre staged
      isplitl [Hl Hc]
      · isplitr; · iexact HR
        isplitl [Hl]; · iexact Hl
        isplitl [Hc]; · iexact Hc
        iexact Hlev
      isplitl [Hz]; · iexact Hz
      isplitl [Hw]; · iexact Hw
      isplitl [Hs]; · iexact Hs
      isplitl [H0 H1 H2]
      · isplitl [H0]; · iexact H0
        isplitl [H1] <;> iassumption
      iexists g3; iexact H3
    · iexact HO
  unfold bodyPost staged post' Φ₁ free Dat.owesAt Pipeline.owesWithin
  iintro ⟨Hz, Hw1, Hw, Hs, ⟨H0, H1, H2⟩, H3, ⟨%W', HO⟩⟩
  isplitl [Hz Hw1 Hw Hs]
  · isplitl [Hz]; · iexact Hz
    isplitl [Hw1]; · iexact Hw1
    isplitl [Hw] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The cells and tokens at launch -/

/-- The kernel's own semaphores that it uses: departures, arrivals, tiles' loads. -/
def osem : (Fin 15 ⊕ Fin 15) ⊕ (Fin 2 × Fin 4) → SemLoc sig
  | .inl (.inl d) => .dma (sendS d)
  | .inl (.inr d) => .dma (recvS d)
  | .inr (s, r) => .dma (wS s r)

set_option maxRecDepth 20000 in
theorem ownSemFacts : Pipeline.OwnSemFacts cfg0.spec osem := by decide +kernel

theorem share_eq (c : Dev nD) (w : Fin cfg0.W) : (dats m ρ 0 c).share w = fullShare := by unfold Dat.share; split <;> rfl

def theCells : Finset (GSem nD τ sig) := Finset.univ.map ⟨kcell, kcell_injective⟩

/-- The duties of a device's own cells: which cell, which duty. -/
def tokK : Fin 15 ⊕ (Fin 15 ⊕ Fin 15) → Kd × Fin 15
  | .inl d => (.inl (), d)
  | .inr k => (.inr k, 0)
theorem tokK_injective : Function.Injective tokK := by
  rintro (d | k) (d' | k') h
  · exact congrArg Sum.inl (congrArg Prod.snd h)
  · exact absurd (congrArg Prod.fst h) (fun h' => by cases h')
  · exact absurd (congrArg Prod.fst h) (fun h' => by cases h')
  · exact congrArg Sum.inr (Sum.inr.inj (congrArg Prod.fst h))
def tokOf (cj : Dev nD × (Fin 15 ⊕ (Fin 15 ⊕ Fin 15))) : GSem nD τ sig × ℕ × Fin 15 := (kcell (cj.1, (tokK cj.2).1), 0, (tokK cj.2).2)
theorem tokOf_injective : Function.Injective tokOf := by
  rintro ⟨c, j⟩ ⟨c', j'⟩ h
  have h1 := kcell_injective (congrArg Prod.fst h)
  have h2 : tokK j = tokK j' := Prod.ext (congrArg Prod.snd h1) (congrArg (fun x => x.2.2) h)
  rw [show c = c' from congrArg Prod.fst h1, tokK_injective h2]
def theToks : Finset (GSem nD τ sig × ℕ × Fin 15) := Finset.univ.map ⟨tokOf, tokOf_injective⟩

def u₀ : UU := (initOf (Pipeline.cells cfgs cellOf_inj) (Pipeline.launchToks cfgs cellOf_inj), (initOf theCells theToks, 1))

/-- The tokens of device `c`'s own cells' duties. -/
def toks (c : Dev nD) : sProp 𝕄 :=
  iprop((bigSep Finset.univ fun d => dutyTok ER (barCell c) 0 d) ∗ (bigSep Finset.univ fun d => dutyTok ER (sendCell c d) 0 0)
    ∗ bigSep Finset.univ fun d => dutyTok ER (recvCell c d) 0 0)

/-- What the launch element deals device `c`. -/
def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ toks c)

/-- What the global step makes of it. -/
def G' (c : Dev nD) : sProp 𝕄 := iprop(∃ K, records m ρ K ∗ linear c ∗ wSems c)

omit [FloatOps F] in
theorem kd_eq (Φ : Kd → sProp 𝕄) :
    bigSep Finset.univ Φ = iprop(Φ (.inl ()) ∗ (bigSep Finset.univ fun d => Φ (.inr (.inl d))) ∗ bigSep Finset.univ fun d => Φ (.inr (.inr d))) := by
  rw [bigSep_univ_sum, bigSep_univ_sum, bigSep_univ_eq_bigSepL [()] (by decide) (by decide)]; rfl

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Kd => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(((bigSep Finset.univ fun d => semVal (sendCell c d) 0) ∗ bigSep Finset.univ fun d => semVal (recvCell c d) 0) ∗ wSems c) := by
  unfold Pipeline.ownSems0 wSems
  rw [bigSep_univ_sum, bigSep_univ_sum, bigSep_univ_prod, bigSep_fin_two, chunks_eq, chunks_eq]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells' invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ wSems c) := by
  unfold G
  rw [ownSems0_eq, unscopedSems0_eq]
  iintro ⟨⟨⟨HS, HV⟩, Hw⟩, HB, Hst, Hat, Htok⟩
  ihave Hv := (Entails.of_eq (kd_eq fun k => semVal (kcell (c, k)) 0).symm) $$ [HS HV HB]
  · isplitl [HB]; · iexact HB
    isplitl [HS]; · iexact HS
    iexact HV
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens of the duties device `c` pays. -/
def payToks (c : Dev nD) : sProp 𝕄 :=
  iprop((bigSep Finset.univ fun d => dutyTok ER (barCell (fwd c d)) 0 d) ∗ (bigSep Finset.univ fun d => dutyTok ER (sendCell c d) 0 0)
    ∗ bigSep Finset.univ fun d => dutyTok ER (recvCell (fwd c d) d) 0 0)

/-- The step by `d` devices, which is a bijection of them. -/
def fwdEquiv (d : Fin 15) : Dev nD ≃ Dev nD := ⟨fun c => fwd c d, fun c => bwd c d, fun c => bwd_fwd c d, fun c => fwd_bwd c d⟩

omit [FloatOps F] in
/-- What each device has for each offset is what the device that far ahead of each has. -/
theorem swap_around (Φ : Dev nD → Fin 15 → sProp 𝕄) :
    (bigSep Finset.univ fun c => bigSep Finset.univ fun d => Φ c d) = bigSep Finset.univ fun c => bigSep Finset.univ fun d => Φ (fwd c d) d := by
  rw [BI.bigSep_univ_comm, BI.bigSep_univ_comm (fun c d => Φ (fwd c d) d)]
  exact bigSep_congr fun d _ => bigSep_univ_equiv (fwdEquiv d) fun c => Φ c d

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', swap_around (fun c d => dutyTok ER (barCell c) 0 d),
    swap_around (fun c d => dutyTok ER (recvCell c d) 0 0)]

theorem linear_eq (c : Dev nD) : iprop((bigSep Finset.univ fun k : Kd => atPos ER (kcell (c, k)) 0 ∅ 0) ∗ payToks c) = (linear c : sProp 𝕄) := by
  unfold linear payToks
  rw [kd_eq]
  simp only [offs_eq]
  rfl

theorem with_records {S : Finset (Dev nD)} {R : sProp 𝕄} [BI.Persistent R] {Φ Ψ : Dev nD → sProp 𝕄}
    (h : ∀ c, iprop(R ∗ Φ c) ⊢ Ψ c) : iprop(R ∗ bigSep S Φ) ⊢ bigSep S Ψ :=
  (sep_mono_left (BI.bigSep_of_persistent S R)).trans (by rw [← bigSep_sep']; exact bigSep_mono fun c _ => h c)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ wSems c) : sProp 𝕄)
      ⊢ bigSep Finset.univ (G' m ρ) := by
  rw [bigSep_sep', bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄)), toks_around]
  iintro ⟨HI, ⟨Hat, #HR⟩, Htok, Hw⟩
  ihave HK := (BI.bigSep_exists_pi Finset.univ (fun (ck : Dev nD × Kd) (κ : ℕ) => (cellInv ER (Rd m ρ) κ (kcell ck) : sProp 𝕄))) $$ HI
  icases HK with ⟨%K, #HI⟩
  iapply (with_records (R := records m ρ K) (Φ := fun c => iprop(((bigSep Finset.univ fun k : Kd => atPos ER (kcell (c, k)) 0 ∅ 0) ∗ payToks c) ∗ wSems c)) fun c => by
    unfold G'
    rw [linear_eq]
    iintro ⟨H1, H2, H3⟩
    iexists K
    isplitl [H1]; · iexact H1
    isplitl [H2] <;> iassumption)
  isplitr
  · unfold records; isplitl; · iexact HI
    iexact HR
  · rw [bigSep_sep', bigSep_sep']
    isplitl [Hat Htok]
    · isplitl [Hat] <;> iassumption
    iexact Hw

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

theorem sum_offs (f : Fin 15 → ℕ) : (offs.map f).sum = ∑ d, f d := by rw [← List.sum_toFinset f offs_nodup, offs_univ]

theorem owedRecv_apply (c : Dev nD) (l : List (Fin 15)) (g : GSem nD τ sig) :
    owedRecv c l g () = (l.map fun d => if g = recvCell (fwd c d) d then N else 0).sum := by
  induction l with
  | nil => rfl
  | cons d l ih =>
    show (owedRecv c l + tallyAt (recvCell (fwd c d) d) () N) g () = _
    rw [Pi.add_apply, Finsupp.add_apply, tallyAt_apply, ih, List.map_cons, List.sum_cons, Nat.add_comm]
    simp only [and_true]
theorem owedBar_apply (c : Dev nD) (l : List (Fin 15)) (g : GSem nD τ sig) :
    owedBar c l g () = owedRecv c offs g () + (l.map fun d => if g = barCell (fwd c d) then 1 else 0).sum := by
  induction l with
  | nil => rfl
  | cons d l ih =>
    show (owedBar c l + tallyAt (barCell (fwd c d)) () 1) g () = _
    rw [Pi.add_apply, Finsupp.add_apply, tallyAt_apply, ih, List.map_cons, List.sum_cons]
    simp only [and_true]
    omega

theorem bar_eq_iff {a b : Dev nD} : barCell a = barCell b ↔ a = b :=
  ⟨fun h => congrArg Prod.fst (kcell_injective (a₁ := (a, .inl ())) (a₂ := (b, .inl ())) h), fun h => h ▸ rfl⟩
theorem recv_eq_iff {a b : Dev nD} {d e : Fin 15} : recvCell a d = recvCell b e ↔ a = b ∧ d = e :=
  ⟨fun h => by
    have h1 := kcell_injective (a₁ := (a, .inr (.inr d))) (a₂ := (b, .inr (.inr e))) h
    exact ⟨congrArg Prod.fst h1, Sum.inr.inj (Sum.inr.inj (congrArg Prod.snd h1))⟩, fun h => by rw [h.1, h.2]⟩
theorem bar_ne_recv (a b : Dev nD) (d : Fin 15) : barCell a ≠ recvCell b d := fun h => by
  have h1 := congrArg Prod.snd (kcell_injective (a₁ := (a, .inl ())) (a₂ := (b, .inr (.inr d))) h)
  cases h1
theorem fwd_eq_iff (c c' : Dev nD) (d : Fin 15) : c = fwd c' d ↔ c' = bwd c d :=
  ⟨fun h => by rw [h, bwd_fwd], fun h => by rw [h, fwd_bwd]⟩

theorem owed_bar (c c' : Dev nD) : O₀ c' (barCell c) () = ∑ d, if c' = bwd c d then 1 else 0 := by
  unfold O₀
  rw [owedBar_apply, owedRecv_apply, sum_offs, sum_offs, Finset.sum_eq_zero fun d _ => if_neg (bar_ne_recv c _ d), Nat.zero_add]
  simp only [bar_eq_iff, fwd_eq_iff]
theorem owed_recv (c c' : Dev nD) (e : Fin 15) : O₀ c' (recvCell c e) () = if c' = bwd c e then N else 0 := by
  unfold O₀
  rw [owedBar_apply, owedRecv_apply, sum_offs, sum_offs, Finset.sum_eq_zero (f := fun d => if recvCell c e = barCell (fwd c' d) then 1 else 0)
    fun d _ => if_neg fun h => bar_ne_recv _ _ _ h.symm, Nat.add_zero, Finset.sum_eq_single e]
  · simp only [recv_eq_iff, fwd_eq_iff, and_true]
  · intro d _ hd; exact if_neg fun h => hd (recv_eq_iff.mp h).2.symm
  · intro h; exact absurd (Finset.mem_univ e) h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm,
    Finset.sum_congr rfl fun d _ => (Finset.sum_ite_eq' Finset.univ (bwd c d) fun _ => 1).trans (if_pos (Finset.mem_univ _))]
  rfl
theorem launch_recv (c : Dev nD) (e : Fin 15) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv c d e,
    Finset.sum_ite_eq' Finset.univ (bwd c e) fun _ => N, if_pos (Finset.mem_univ _)]

theorem creds_intro (c : Dev nD) : (Pipeline.launchCred O₀ c : sProp 𝕄) ⊢ creds c := by
  unfold Pipeline.launchCred creds
  refine (BI.bigSep_subset (Finset.subset_univ (Finset.univ.map ⟨csem, csem_injective⟩))).trans ?_
  rw [bigSep_map, kd_eq]
  show iprop(cred (tallyOn (barCell c) (launchCredit (Pipeline.owing O₀) 0 (barCell c))) ∗ _
    ∗ bigSep Finset.univ fun d => cred (tallyOn (recvCell c d) (launchCredit (Pipeline.owing O₀) 0 (recvCell c d)))) ⊢ _
  rw [launch_bar, bigSep_congr (fun d _ => congrArg cred (launch_recv c d)), offs_eq (fun d => cred (tallyAt (recvCell c d) () N))]
  iintro ⟨H1, -, H2⟩
  isplitl [H1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ whole c main_arg1 (Wt m ρ c)) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq, offs_eq, offs_eq]
  unfold Φ₁ scratch
  iintro ⟨⟨HzB, HzS, HzV⟩, Hw1, Hw, Hs⟩
  isplitl [HzB Hw]
  · isplitl [HzB] <;> iassumption
  isplitl [HzS HzV Hw1]
  · isplitl [HzS HzV]
    · isplitl [HzS] <;> iassumption
    iexact Hw1
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by
      have h : ∀ (w : Fin 4) (s : Fin (spec0 w).nbuf) (k : Kd), csem k ≠ .dma ((spec0 w).sem s) := by decide +kernel
      exact h w s) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = Wt m ρ c

set_option maxRecDepth 20000 in
/-- For any float values, from any memory with zero counters, every weakly fair execution of the sixteen devices ends, each
    window's array at the computed contents, the weights unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb (embR : Emb (UB × Counters) 𝕄) _ _) $$ HX
      icases HX with ⟨HX, -⟩
      ihave HX := (Entails.of_eq (show BI.own (((Emb.inl : Emb UB (UB × Counters)).trans (embR : Emb (UB × Counters) 𝕄)) (initOf theCells theToks))
        = BI.own (ER (initOf theCells theToks)) from rfl)) $$ HX
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ whole c main_arg1 (Wt m ρ c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = Wt m ρ c)
    (hY := fun c s' => by
      iintro ⟨⟨Hu, Hw⟩, -, HSI⟩
      imod (Pipeline.unscopedSems0_read (X := unscopedSems0 c) (c := c) fupd_intro s') $$ [Hu HSI] with ⟨%h1, HSI⟩
      · isplitl [Hu] <;> iassumption
      ihave Hr := (pointsTo_read_all ({()} : Finset Unit) (fun _ => (c : Thread nD τ).loc main_arg1) (fun _ => Wt m ρ c) s') $$ [Hw HSI]
      · isplitl [Hw]
        · rw [bigSep_singleton]; iexact Hw
        · iexact HSI
      icases Hr with ⟨%h2, HSI⟩
      imodintro
      isplitr
      · ipureintro; exact ⟨h1, h2 () (Finset.mem_singleton_self _)⟩
      · iexact HSI)
    (hQ := fun _ h hs => ⟨fun c => ⟨fun w => (h c).1 w, (h c).2.2.2⟩, sem_eq_zero hs fun c => (h c).2.2.1⟩)

end Cert.KProof

end
-- ==== Proof.Final.lean ====
/-
# 01_k — what the run leaves

The arrays after the run: each argument what it was, the result the device's tiles side by side; so the run ends with
the result known and the arguments unchanged, at any float values.
-/
module

public import proofs.«01_k».proof.Proof.Run

@[expose] public section

noncomputable section

namespace Cert.KProof

open Cert.KernelIdeal Cert.KernelIdeal.Gen

open Idealize.ShloMosaic
open Idealize.ShloMosaic.TcCoe
open Idealize.ShloMosaic.Pipeline
open Idealize.SL Idealize.SL.Sem

variable {F : FTy → Type} [FloatOps F]

variable (m : (ℓ : Loc nD τ sig) → Buf (Elt F) ℓ) (ρ : Dev nD → PrngReg)

/-- The block of a window that is its whole array is the array's contents. -/
theorem read_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem read_sx (f : (main_arg2 : Ref sig .tc).ty.Contents (Elt F)) : (win0_1.blk (0 : Fin 1)).view.read (Elt F) f = f :=
  Memref.read_access_unit_zero (Elt F) main_arg2 (funext fun a => by fin_cases a <;> decide) (fun a => by fin_cases a <;> decide) f
theorem read_sw (f : (main_arg3 : Ref sig .tc).ty.Contents (Elt F)) : (win0_2.blk (0 : Fin 1)).view.read (Elt F) f = f :=
  Memref.read_access_unit_zero (Elt F) main_arg3 (funext fun a => by fin_cases a <;> decide) (fun a => by fin_cases a <;> decide) f
theorem read_out (f : (main_v1 : Ref sig .tc).ty.Contents (Elt F)) : (win0_3.blk (0 : Fin 1)).view.read (Elt F) f = f :=
  Memref.read_access_unit_zero (Elt F) main_v1 (funext fun a => by fin_cases a <;> decide) (fun a => by fin_cases a <;> decide) f

/-- After the run the result array holds the device's tiles. -/
theorem finalA_out (c : Dev nD) : finalA m ρ c (3 : Fin 4) = OUT m ρ c := by
  refine (read_out (finalA m ρ c (3 : Fin 4))).symm.trans ?_
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 (0 : Fin 1), if_pos rfl]
  exact View.read_write_univ _ _

/-- The run at any float values: the result known, the arguments unchanged, the counters zero. -/
theorem run_values : θ_run defs (onTc (τ := τ) (main (F := F))) ⟨m, fun _ => 0, ρ⟩ (fun r => (∀ c : Dev nD,
    r.2.mem ((c.tc : Thread nD τ).loc main_v1) = OUT m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  (θ_run defs _ _).mono (fun _ h => ⟨fun c =>
    ⟨((h.1 c).1 (3 : Fin 4)).trans (finalA_out m ρ c),
      ((h.1 c).1 (0 : Fin 4)).trans ((dats (F := F) m ρ 0 c).arrAt_in (0 : Fin 4) rfl _),
      (h.1 c).2,
      ((h.1 c).1 (1 : Fin 4)).trans ((dats (F := F) m ρ 0 c).arrAt_in (1 : Fin 4) rfl _),
      ((h.1 c).1 (2 : Fin 4)).trans ((dats (F := F) m ρ 0 c).arrAt_in (2 : Fin 4) rfl _)⟩, h.2⟩) (run_main m ρ)

end Cert.KProof

end
-- ==== Proof.Value.lean ====
/-
# 01_k — the value

Over the extended reals: device `c`'s tiles side by side are rows `256 c … 256 c + 255` of the reference's result. The
gathered buffer at `(r, k)` is `x` at row `256 c + r`, column `k`, since device `k / 256` holds columns `256 (k / 256) …`
of `x`; a tile's product is the reference's sum over `k`; the epilogue is the reference's, entry by entry.
-/
module

public import proofs.«01_k».proof.Proof.Final
public import proofs.«01_k».proof.Proof.Gen.ReferenceIdeal.Run
public import Idealize.ShloMosaic.Lib.KernelVsHost
public import Idealize.ShloMosaic.Lib.MatmulPlain
public import Idealize.ShloMosaic.Lib.StackMember
public import Idealize.ShloMosaic.Lib.ValueLayout
public import Idealize.ShloMosaic.Lib.Layout

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.Sem

variable (m : (ℓ : Loc nD τ sig) → Buf (Elt Ideal) ℓ) (ρ : Dev nD → PrngReg)

/-- The epilogue of one entry: the sum `a` scaled by `s`, over one plus the exponential of its clipped opposite. -/
def gate (a s : EReal) : EReal :=
  FloatOps.divf (F := Ideal) (φ := .f32) (a * s : EReal)
    (FloatOps.addf (F := Ideal) (φ := .f32) (FloatOps.ofBits .f32 0x3F800000#32)
      (FloatOps.exp (FloatOps.hostNegf (FloatOps.minimumf (FloatOps.ofBits .f32 0x42700000#32)
        (FloatOps.maximumf (FloatOps.ofBits .f32 0xC2700000#32) (a * s : EReal))))))

theorem kdot : dot_S256x4096_S4096x1024_S256x1024_1_0_0_1_n_n = DotDims.plain 256 4096 1024 := rfl
theorem rdot : Cert.ReferenceIdeal.dot_S4096x4096_S4096x8192_S4096x8192_1_0_0_1_n_n = DotDims.plain 4096 4096 8192 := rfl

/-- One entry of a tile: the sum over `k` of the gathered buffer's row times the tile's column, then the epilogue. -/
theorem tileVal_apply (s : EReal) (xf : S256x4096.Idx → EReal) (w : S1x4096x1024.Idx → EReal) (r : Fin 256) (n : Fin 1024) :
    tileVal (F := Ideal) s xf w (ix2 r n) = gate (∑ k : Fin 4096, xf (ix2 r k) * w (ix3 (0 : Fin 1) k n)) s := by
  have hm : matmul (F := Ideal) (φ₁ := .fp8e4m3) (φ₂ := .fp8e5m2) (DotDims.plain 256 4096 1024) none xf (shapeCast S4096x1024 w shapeCasts_S1x4096x1024_S4096x1024)
      (constant S256x1024 .f32 0x00000000#32) (ix2 r n) = ∑ k : Fin 4096, xf (ix2 r k) * w (ix3 (0 : Fin 1) k n) := by
    rw [matmul_zero_eq_dotGeneral]
    refine (StackMember.dotGeneral_plain_apply none _ _ r n).trans (Finset.sum_congr rfl fun k _ => ?_)
    exact congrArg (xf (ix2 r k) * ·) (shapeCast_1ab_ab_apply w _ k n)
  rw [← hm]
  unfold tileVal k0_pay6
  rw [subf_zero_eq_hostNegf]
  rfl

section Reference
open Cert.ReferenceIdeal Cert.ReferenceIdeal.Gen

/-- The reference's result as its operations compute it from the whole arrays. -/
def REF (x : FVec Ideal Cert.ReferenceIdeal.S4096x4096 .f32) (w : FVec Ideal Cert.ReferenceIdeal.S4096x8192 .f32) (sx sw : FVec Ideal Cert.ReferenceIdeal.S1 .f32) :
    FVec Ideal Cert.ReferenceIdeal.S4096x8192 .f32 :=
  let y := mulf (Host.dotGeneral dot_S4096x4096_S4096x8192_S4096x8192_1_0_0_1_n_n none x w)
    (broadcastInDim Cert.ReferenceIdeal.S4096x8192 ![0, 1] bcast_S1x1_S4096x8192_0_1 (broadcastInDim Cert.ReferenceIdeal.S1x1 ![1] bcast_S1_S1x1_1 (mulf sx sw)))
  Host.divf y (addf (broadcastInDim Cert.ReferenceIdeal.S4096x8192 ![] bcast_S_S4096x8192 (constant Cert.ReferenceIdeal.S_ .f32 0x3F800000#32))
    (Host.exp (Host.negf (minimumf (broadcastInDim Cert.ReferenceIdeal.S4096x8192 ![] bcast_S_S4096x8192 (id (constant Cert.ReferenceIdeal.S_ .f32 0x42700000#32)))
      (maximumf (broadcastInDim Cert.ReferenceIdeal.S4096x8192 ![] bcast_S_S4096x8192 (id (constant Cert.ReferenceIdeal.S_ .f32 0xC2700000#32))) y)))))

/-- One entry of it: the sum over `k` of the row of `x` times the column of the weights, then the epilogue. -/
theorem REF_apply (x : FVec Ideal Cert.ReferenceIdeal.S4096x4096 .f32) (w : FVec Ideal Cert.ReferenceIdeal.S4096x8192 .f32) (sx sw : FVec Ideal Cert.ReferenceIdeal.S1 .f32)
    (R : Fin 4096) (n : Fin 8192) :
    REF x w sx sw (ix2 R n) = gate (∑ k : Fin 4096, x (ix2 R k) * w (ix2 k n)) (sx s0 * sw s0 : EReal) := by
  have hm : Host.dotGeneral (F := Ideal) (φ₁ := .f32) (φ₂ := .f32) (DotDims.plain 4096 4096 8192) none x w (ix2 R n) = ∑ k : Fin 4096, x (ix2 R k) * w (ix2 k n) :=
    StackMember.dotGeneral_plain_apply none x w R n
  rw [← hm]
  have hs : broadcastInDim Cert.ReferenceIdeal.S4096x8192 ![0, 1] bcast_S1x1_S4096x8192_0_1 (broadcastInDim Cert.ReferenceIdeal.S1x1 ![1] bcast_S1_S1x1_1 (mulf sx sw)) (ix2 R n)
      = (sx s0 * sw s0 : EReal) := by
    show (sx _ * sw _ : EReal) = _
    have e : ∀ i : Cert.ReferenceIdeal.S1.Idx, i = s0 := fun i => funext fun a => Fin.ext (by
      match a with
      | ⟨0, _⟩ =>
        have h1 : (i 0).val < 1 := (i 0).isLt
        have h2 : ((s0 : Cert.ReferenceIdeal.S1.Idx) 0).val < 1 := ((s0 : Cert.ReferenceIdeal.S1.Idx) 0).isLt
        show (i 0).val = ((s0 : Cert.ReferenceIdeal.S1.Idx) 0).val
        omega)
    exact congrArg₂ (fun a b => (sx a * sw b : EReal)) (e _) (e _)
  rw [← hs]
  rfl

end Reference

/-- Each device's buffers hold their part of the whole arrays. -/
structure Parts (X : FVec Ideal Cert.ReferenceIdeal.S4096x4096 .f32) (W : FVec Ideal Cert.ReferenceIdeal.S4096x8192 .f32) (SX SW : FVec Ideal Cert.ReferenceIdeal.S1 .f32) : Prop where
  x (c : Dev nD) : m ((c.tc : Thread nD τ).loc main_arg0) = Layout.block ⟨2, ![4096, 256]⟩ ⟨2, ![4096, 4096]⟩ 1 16 c X
  w (c : Dev nD) : m ((c.tc : Thread nD τ).loc main_arg1) = W
  sx (c : Dev nD) : m ((c.tc : Thread nD τ).loc main_arg2) = SX
  sw (c : Dev nD) : m ((c.tc : Thread nD τ).loc main_arg3) = SW

variable {m}
variable {X : FVec Ideal Cert.ReferenceIdeal.S4096x4096 .f32} {W : FVec Ideal Cert.ReferenceIdeal.S4096x8192 .f32} {SX SW : FVec Ideal Cert.ReferenceIdeal.S1 .f32}

/-- The gathered buffer of device `c` holds rows `256 c …` of the whole `x`. -/
theorem XF_whole (h : Parts m X W SX SW) (c : Dev nD) (r : Fin 256) (k : Fin 4096) :
    XF m ρ c (ix2 r k) = X (ix2 ⟨c.val * 256 + r.val, xrow_lt c (ix2 r k)⟩ k) := by
  show k0_pay1 (F := Ideal) (xstg m ρ (xdev (ix2 r k))) (xrow c (ix2 r k)) = _
  unfold k0_pay1
  rw [shapeCast_self, shapeCast_self]
  show xstg m ρ (xdev (ix2 r k)) (xrow c (ix2 r k)) = _
  unfold xstg
  rw [read_x]
  show m (((xdev (ix2 r k)).tc : Thread nD τ).loc main_arg0) (xrow c (ix2 r k)) = _
  rw [h.x]
  refine congrArg X (funext fun a => Fin.ext ?_)
  match a with
  | ⟨0, _⟩ => rfl
  | ⟨1, _⟩ => show k.val / 256 * 256 + k.val % 256 = k.val; omega

/-- The scale every device multiplies by is the product of the two scales. -/
theorem scale_whole (h : Parts m X W SX SW) (c : Dev nD) : scale m ρ c = (SX s0 * SW s0 : EReal) := by
  unfold scale sxv swv
  rw [read_sx, read_sw]
  refine congrArg₂ (fun a b : EReal => a * b) ?_ ?_
  · exact congrFun (h.sx c) s0
  · exact congrFun (h.sw c) s0

/-- Device `c`'s result is block `c` of the reference's. -/
theorem OUT_whole (h : Parts m X W SX SW) (c : Dev nD) :
    OUT m ρ c = Layout.block ⟨2, ![256, 8192]⟩ ⟨2, ![4096, 8192]⟩ 0 16 c (REF X W SX SW) := by
  funext i
  have h0 : (i 0).val < 256 := (i 0).isLt
  have h1 : (i 1).val < 8192 := (i 1).isLt
  have hR : c.val * 256 + (i 0).val < 4096 := by have hc : c.val < 16 := c.isLt; omega
  have hi : Layout.block ⟨2, ![256, 8192]⟩ ⟨2, ![4096, 8192]⟩ 0 16 c (REF X W SX SW) (by decide) i = REF X W SX SW (ix2 ⟨c.val * 256 + (i 0).val, hR⟩ ⟨(i 1).val, h1⟩) := by
    rw [Layout.block_apply]
    refine congrArg (REF X W SX SW) (funext fun a => Fin.ext ?_)
    match a with
    | ⟨0, _⟩ => rfl
    | ⟨1, _⟩ => rfl
  rw [hi, REF_apply]
  unfold OUT
  refine (tileVal_apply (scale m ρ c) (XF m ρ c) (WV m ρ c (otile i)) ⟨(i 0).val, h0⟩ ⟨(i 1).val % 1024, Nat.mod_lt _ (by decide)⟩).trans ?_
  refine congrArg₂ gate (Finset.sum_congr rfl fun k _ => congrArg₂ (fun a b : EReal => a * b) ?_ ?_) (scale_whole ρ h c)
  · exact XF_whole ρ h c _ k
  · show m ((c.tc : Thread nD τ).loc main_arg1) _ = _
    rw [h.w]
    refine congrArg W (funext fun a => Fin.ext ?_)
    match a with
    | ⟨0, _⟩ => rfl
    | ⟨1, _⟩ => show (i 1).val / 1024 * 1024 + (i 1).val % 1024 = (i 1).val; omega

end Cert.KProof

end
-- ==== Proof.Same.lean ====
/-
# 01_k — one text, two names

The kernel as the machine computes it and the kernel over the extended reals are one text; here, that the two programs
are equal at the machine's float values, so that a run of the one is a run of the other.
-/
module

public import proofs.«01_k».proof.Proof.Final
public import proofs.«01_k».proof.Defs
public import proofs.«01_k».proof.Proof.Gen.Kernel

@[expose] public section

noncomputable section

namespace Cert.KProof

open Idealize.ShloMosaic
open Idealize.SL.Sem

/-- The two bodies are equal, -/
theorem body_same : Cert.Kernel.cc0_body (F := Bits) = Cert.KernelIdeal.cc0_body (F := Bits) := rfl

/-- so are the tables of bodies, -/
theorem defs₀_same : Cert.Kernel.defs₀ (F := Bits) = Cert.KernelIdeal.defs₀ (F := Bits) := by
  refine congrArg Defs.onTc (funext fun l => funext fun a => ?_)
  match l, a with
  | ⟨0, _⟩, (t, s) => exact body_same ▸ rfl
  | ⟨_ + 1, h⟩, _ => exact absurd h (Nat.not_lt.2 (Nat.le_add_left _ _))

/-- with the pipeline's, -/
theorem defs_same : Cert.Kernel.defs (F := Bits) = Cert.KernelIdeal.defs (F := Bits) :=
  congrArg (Pipeline.defs _) defs₀_same

/-- and the two programs. -/
theorem main_same : Cert.Kernel.main (F := Bits) = Cert.KernelIdeal.main (F := Bits) := rfl

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import proofs.«01_k».proof.Proof.Value
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as the machine computes it runs, its arguments unchanged, its counters back at zero: the run over any float
    values, at the machine's. -/
theorem frame_kernel : Cert.quiescent_Kernel := fun m ρ _ => by
  rw [Cert.KProof.defs_same, Cert.KProof.main_same]
  exact (θ_run Cert.KernelIdeal.defs _ _).mono (fun _ h => ⟨fun c => (h.1 c).2, h.2⟩) (Cert.KProof.run_values (F := Bits) m ρ)

/-- The kernel over the extended reals runs, its arguments unchanged, its counters back at zero. -/
theorem frame_kernelIdeal : Cert.quiescent_KernelIdeal := fun m ρ _ =>
  (θ_run Cert.KernelIdeal.defs _ _).mono (fun _ h => ⟨fun c => (h.1 c).2, h.2⟩) (Cert.KProof.run_values (F := Ideal) m ρ)

/-- The reference runs, its arguments unchanged; it has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, each device's result is its block of the reference's. -/
theorem algebraic : Cert.algebraic_KernelIdeal_ReferenceIdeal := fun m ρ m' ρ' _ hagree =>
  have h : Cert.KProof.Parts m _ _ _ _ := ⟨fun c => (hagree c).1, fun c => (hagree c).2.1, fun c => (hagree c).2.2.1, fun c => (hagree c).2.2.2⟩
  ⟨Cert.KProof.REF (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ hr c => ⟨(hr.1 c).1.trans (Cert.KProof.OUT_whole ρ h c), (hr.1 c).2⟩)
      (Cert.KProof.run_values (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
